-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S18x128x7168 : Shape := ⟨3, ![18, 128, 7168]⟩
abbrev S18x7168x16 : Shape := ⟨3, ![18, 7168, 16]⟩
abbrev S18x16 : Shape := ⟨2, ![18, 16]⟩
abbrev S_ : Shape := ⟨0, ![]⟩

class Facts : Prop where
  bitsLt_bf16_f32 : FTy.bits .bf16 < FTy.bits .f32
  bcast_S_S18x128x7168 : S_.BroadcastsInDim S18x128x7168 (![] : Fin 0 → Fin S18x128x7168.rank)
  reducesTo_S18x128x7168_S_d0_1_2 : S18x128x7168.ReducesTo [0, 1, 2] S_
  h_S_ : 0 < S_.numel
  bcast_S_S18x16 : S_.BroadcastsInDim S18x16 (![] : Fin 0 → Fin S18x16.rank)
  reducesTo_S18x16_S_d0_1 : S18x16.ReducesTo [0, 1] S_

variable [Facts]

def fn {F : FTy → Type} [FloatOps F] (main_arg0 : FVec F S18x128x7168 .bf16) (main_arg1 : FVec F S18x128x7168 .bf16) (main_arg2 : IVec S18x7168x16 8) (main_arg3 : FVec F S18x16 .f32) : IVec S_ 1 :=
  let main_v0 : FVec F S18x128x7168 .f32 := (extf .f32 · bitsLt_bf16_f32) main_arg0
  let main_v1 : FVec F S18x128x7168 .f32 := Host.absf main_v0
  let main_cst : FVec F S_ .f32 := constant S_ .f32 0x7F800000#32
  let main_v2 : FVec F S18x128x7168 .f32 := broadcastInDim S18x128x7168 ![] bcast_S_S18x128x7168 main_cst
  let main_v3 : IVec S18x128x7168 1 := cmpf .olt main_v1 main_v2
  let main_c : IVec S_ 1 := constantI S_ 1 1#1
  let main_v4 : IVec S_ 1 := (fun x v => Host.reduce IntOp.andi x v reducesTo_S18x128x7168_S_d0_1_2 h_S_) main_v3 main_c
  let main_v5 : FVec F S18x128x7168 .f32 := (extf .f32 · bitsLt_bf16_f32) main_arg1
  let main_v6 : FVec F S18x128x7168 .f32 := Host.absf main_v5
  let main_cst_0 : FVec F S_ .f32 := constant S_ .f32 0x7F800000#32
  let main_v7 : FVec F S18x128x7168 .f32 := broadcastInDim S18x128x7168 ![] bcast_S_S18x128x7168 main_cst_0
  let main_v8 : IVec S18x128x7168 1 := cmpf .olt main_v6 main_v7
  let main_c_1 : IVec S_ 1 := constantI S_ 1 1#1
  let main_v9 : IVec S_ 1 := (fun x v => Host.reduce IntOp.andi x v reducesTo_S18x128x7168_S_d0_1_2 h_S_) main_v8 main_c_1
  let main_v10 : IVec S_ 1 := andi main_v4 main_v9
  let main_v11 : FVec F S18x16 .f32 := Host.absf main_arg3
  let main_cst_2 : FVec F S_ .f32 := constant S_ .f32 0x7F800000#32
  let main_v12 : FVec F S18x16 .f32 := broadcastInDim S18x16 ![] bcast_S_S18x16 main_cst_2
  let main_v13 : IVec S18x16 1 := cmpf .olt main_v11 main_v12
  let main_c_3 : IVec S_ 1 := constantI S_ 1 1#1
  let main_v14 : IVec S_ 1 := (fun x v => Host.reduce IntOp.andi x v reducesTo_S18x16_S_d0_1 h_S_) main_v13 main_c_3
  let main_v15 : IVec S_ 1 := andi main_v10 main_v14
  main_v15
-- ==== Kernel.lean ====
abbrev S18x128x7168 : Shape := ⟨3, ![18, 128, 7168]⟩
abbrev S18x7168x16 : Shape := ⟨3, ![18, 7168, 16]⟩
abbrev S18x16 : Shape := ⟨2, ![18, 16]⟩
abbrev S18x16x7168 : Shape := ⟨3, ![18, 16, 7168]⟩
abbrev S16x18 : Shape := ⟨2, ![16, 18]⟩
abbrev S18x16x128 : Shape := ⟨3, ![18, 16, 128]⟩
abbrev S1x128x7168 : Shape := ⟨3, ![1, 128, 7168]⟩
abbrev S1x16x7168 : Shape := ⟨3, ![1, 16, 7168]⟩
abbrev S1x16x128 : Shape := ⟨3, ![1, 16, 128]⟩
abbrev S128x7168 : Shape := ⟨2, ![128, 7168]⟩
abbrev S16 : Shape := ⟨1, ![16]⟩
abbrev S16x1 : Shape := ⟨2, ![16, 1]⟩
abbrev S16x7168 : Shape := ⟨2, ![16, 7168]⟩
abbrev S16x128 : Shape := ⟨2, ![16, 128]⟩
abbrev S8x128 : Shape := ⟨2, ![8, 128]⟩
abbrev S1x128 : Shape := ⟨2, ![1, 128]⟩
abbrev S8 : Shape := ⟨1, ![8]⟩
abbrev S8x1 : Shape := ⟨2, ![8, 1]⟩
abbrev S128x16 : Shape := ⟨2, ![128, 16]⟩

abbrev nBuf : Space → Nat
  | .hbm => 12
  | .vmem => 18
  | .smem => 0
  | _ => 0

abbrev bufTy : (tb : Table) → Fin (tcTables nBuf tb) → BufTy
  | .hbm, ⟨0, _⟩ => ⟨S18x128x7168, .bf16⟩
  | .hbm, ⟨1, _⟩ => ⟨S18x128x7168, .bf16⟩
  | .hbm, ⟨2, _⟩ => ⟨S18x7168x16, .i8⟩
  | .hbm, ⟨3, _⟩ => ⟨S18x16, .f32⟩
  | .hbm, ⟨4, _⟩ => ⟨S18x16x7168, .i8⟩
  | .hbm, ⟨5, _⟩ => ⟨S16x18, .f32⟩
  | .hbm, ⟨6, _⟩ => ⟨S18x128x7168, .bf16⟩
  | .hbm, ⟨7, _⟩ => ⟨S18x16x128, .f32⟩
  | .hbm, ⟨8, _⟩ => ⟨S18x16x128, .i8⟩
  | .hbm, ⟨9, _⟩ => ⟨S16x18, .f32⟩
  | .hbm, ⟨10, _⟩ => ⟨S18x16x7168, .i8⟩
  | .hbm, ⟨11, _⟩ => ⟨S16x18, .f32⟩
  | .local _ .vmem, ⟨0, _⟩ => ⟨S1x128x7168, .bf16⟩
  | .local _ .vmem, ⟨1, _⟩ => ⟨S1x128x7168, .bf16⟩
  | .local _ .vmem, ⟨2, _⟩ => ⟨S1x128x7168, .bf16⟩
  | .local _ .vmem, ⟨3, _⟩ => ⟨S1x128x7168, .bf16⟩
  | .local _ .vmem, ⟨4, _⟩ => ⟨S1x16x7168, .i8⟩
  | .local _ .vmem, ⟨5, _⟩ => ⟨S1x16x7168, .i8⟩
  | .local _ .vmem, ⟨6, _⟩ => ⟨S16x18, .f32⟩
  | .local _ .vmem, ⟨7, _⟩ => ⟨S1x128x7168, .bf16⟩
  | .local _ .vmem, ⟨8, _⟩ => ⟨S1x128x7168, .bf16⟩
  | .local _ .vmem, ⟨9, _⟩ => ⟨S1x16x128, .f32⟩
  | .local _ .vmem, ⟨10, _⟩ => ⟨S1x16x128, .f32⟩
  | .local _ .vmem, ⟨11, _⟩ => ⟨S1x16x128, .i8⟩
  | .local _ .vmem, ⟨12, _⟩ => ⟨S1x16x128, .i8⟩
  | .local _ .vmem, ⟨13, _⟩ => ⟨S16x18, .f32⟩
  | .local _ .vmem, ⟨14, _⟩ => ⟨S1x16x7168, .i8⟩
  | .local _ .vmem, ⟨15, _⟩ => ⟨S1x16x7168, .i8⟩
  | .local _ .vmem, ⟨16, _⟩ => ⟨S16x18, .f32⟩
  | .local _ .vmem, ⟨17, _⟩ => ⟨S128x7168, .bf16⟩
  | _, _ => ⟨S18x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x7168 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x18 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S18x128x7168 : Shape := ⟨3, ![18, 128, 7168]⟩
abbrev S18x7168x16 : Shape := ⟨3, ![18, 7168, 16]⟩
abbrev S18x16 : Shape := ⟨2, ![18, 16]⟩
abbrev S18x16x128 : Shape := ⟨3, ![18, 16, 128]⟩
abbrev S16x18 : Shape := ⟨2, ![16, 18]⟩
abbrev S18x16x7168 : Shape := ⟨3, ![18, 16, 7168]⟩
abbrev S18x128x16 : Shape := ⟨3, ![18, 128, 16]⟩
abbrev S18x1x16 : Shape := ⟨3, ![18, 1, 16]⟩
abbrev S18x16x16 : Shape := ⟨3, ![18, 16, 16]⟩
abbrev S18x1x1 : Shape := ⟨3, ![18, 1, 1]⟩
abbrev S18x16x1 : Shape := ⟨3, ![18, 16, 1]⟩
abbrev S18x128x1 : Shape := ⟨3, ![18, 128, 1]⟩

abbrev nBuf : Space → Nat
  | .hbm => 10
  | .vmem => 11
  | .smem => 0
  | _ => 0

abbrev bufTy : (tb : Table) → Fin (tcTables nBuf tb) → BufTy
  | .hbm, ⟨0, _⟩ => ⟨S18x128x7168, .bf16⟩
  | .hbm, ⟨1, _⟩ => ⟨S18x128x7168, .bf16⟩
  | .hbm, ⟨2, _⟩ => ⟨S18x7168x16, .i8⟩
  | .hbm, ⟨3, _⟩ => ⟨S18x16, .f32⟩
  | .hbm, ⟨4, _⟩ => ⟨S18x128x7168, .bf16⟩
  | .hbm, ⟨5, _⟩ => ⟨S18x16x128, .f32⟩
  | .hbm, ⟨6, _⟩ => ⟨S18x16x128, .i8⟩
  | .hbm, ⟨7, _⟩ => ⟨S16x18, .f32⟩
  | .hbm, ⟨8, _⟩ => ⟨S18x16x7168, .i8⟩
  | .hbm, ⟨9, _⟩ => ⟨S16x18, .f32⟩
  | .local _ .vmem, ⟨0, _⟩ => ⟨S18x128x7168, .bf16⟩
  | .local _ .vmem, ⟨1, _⟩ => ⟨S18x128x7168, .bf16⟩
  | .local _ .vmem, ⟨2, _⟩ => ⟨S18x7168x16, .i8⟩
  | .local _ .vmem, ⟨3, _⟩ => ⟨S18x16, .f32⟩
  | .local _ .vmem, ⟨4, _⟩ => ⟨S18x128x7168, .bf16⟩
  | .local _ .vmem, ⟨5, _⟩ => ⟨S18x16x128, .f32⟩
  | .local _ .vmem, ⟨6, _⟩ => ⟨S18x16x128, .i8⟩
  | .local _ .vmem, ⟨7, _⟩ => ⟨S16x18, .f32⟩
  | .local _ .vmem, ⟨8, _⟩ => ⟨S18x16x7168, .i8⟩
  | .local _ .vmem, ⟨9, _⟩ => ⟨S16x18, .f32⟩
  | .local _ .vmem, ⟨10, _⟩ => ⟨S18x128x7168, .bf16⟩
  | _, _ => ⟨S18x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S18x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x128x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x7168x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x128x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18x16x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18x16x7168 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x18 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KModel.lean ====
module

public import proofs.«01_k».proof.Proof.Gen.KernelIdeal.Value
public import Idealize.ShloMosaic.Lib.Pipeline.ValueKit

@[expose] public section

set_option maxRecDepth 16384

noncomputable section

namespace Cert.KernelIdeal.Model

open Idealize.ShloMosaic Idealize.ShloMosaic.TcCoe Idealize.SL.Sem
open Cert.KernelIdeal Cert.KernelIdeal.Gen

variable {F : FTy → Type} [FloatOps F]

/-- A row of an 8 by 128 vector lies inside it. -/
theorem slices_row (i : ℕ) : S8x128.Slices ![i % 8, 0] S1x128 :=
  (by decide : ∀ k : Fin 8, S8x128.Slices ![k.val, 0] S1x128) ⟨i % 8, Nat.mod_lt _ (by decide)⟩

/-- Row `i % 8` of an 8 by 128 vector, repeated on every row. -/
def row (i : ℕ) (x : FVec F S8x128 .f32) : FVec F S8x128 .f32 :=
  broadcastTo S8x128 (shapeCast S1x128 (extractStridedSlice S1x128 ![i % 8, 0] x (slices_row i)) shapeCasts_S1x128_S1x128) broadcasts_S1x128_S8x128

/-- The sums along the rows of `x * y`, each repeated along its row. -/
def gram (x y : FVec F S8x128 .f32) : FVec F S8x128 .f32 :=
  broadcastTo S8x128 (shapeCast S8x1 (shapeCast S8x1 (multiReduction .add [1] S8 (mulf x y) 0x00000000#32 reduces_S8x128_S8 (.inl rfl) rfl) shapeCasts_S8_S8x1) shapeCasts_S8x1_S8x1) broadcasts_S8x1_S8x128

/-- The upper (`false`) or lower (`true`) eight rows of `p`. -/
def half (p : FVec F S16x128 .f32) : Bool → FVec F S8x128 .f32
  | false => extractStridedSlice S8x128 ![0, 0] p slices_S16x128_o0_0_S8x128
  | true => extractStridedSlice S8x128 ![8, 0] p slices_S16x128_o8_0_S8x128

/-- The matrix of inner products of the rows of `p` after `j` elimination steps: the rows of half `h` of its column `i`. -/
def s (p : FVec F S16x128 .f32) (j : ℕ) : Bool → ℕ → FVec F S8x128 .f32 :=
  Nat.rec (motive := fun _ => Bool → ℕ → FVec F S8x128 .f32)
    (fun h i => gram (half p h) (row i (half p (Nat.ble 8 i))))
    (fun j sj h i => cond (Nat.ble i j) (sj h i)
      (subf (sj h i) (mulf (row i (mulf (sj (Nat.ble 8 i) j)
        (divf (broadcast S8x128 (Scalar.ofBits .f32 0x3F800000#32)) (row j (sj (Nat.ble 8 j) j))))) (sj h j))))
    j

/-- The pivot of step `j`, on every entry. -/
def d (p : FVec F S16x128 .f32) (j : ℕ) : FVec F S8x128 .f32 := row j (s p j (Nat.ble 8 j) j)

/-- The multipliers of step `j` for the rows of half `h`. -/
def f (p : FVec F S16x128 .f32) (j : ℕ) (h : Bool) : FVec F S8x128 .f32 :=
  mulf (s p j h j) (divf (broadcast S8x128 (Scalar.ofBits .f32 0x3F800000#32)) (d p j))

/-- The row numbers. -/
def sub : IVec S8x128 32 := iota .tc S8x128 32 [0] iota_S8x128_d0_w32

/-- The multipliers of step `j`, zero on the rows up to `j`. -/
def fm (p : FVec F S16x128 .f32) (j : ℕ) (h : Bool) : FVec F S8x128 .f32 :=
  select (cmpi .sgt sub (broadcast S8x128 (BitVec.ofNat 32 (j % 8)))) (f p j h) (broadcast S8x128 (Scalar.ofBits .f32 0x00000000#32))

/-- The rows of half `h` after `j` elimination steps. -/
def y (p : FVec F S16x128 .f32) (j : ℕ) : Bool → FVec F S8x128 .f32 :=
  Nat.rec (motive := fun _ => Bool → FVec F S8x128 .f32)
    (fun h => half p h)
    (fun j yj h => cond (Nat.ble 8 j)
      (cond h (subf (yj h) (mulf (fm p j true) (row j (yj true)))) (yj h))
      (subf (yj h) (mulf (cond h (f p j true) (fm p j false)) (row j (yj false)))))
    j

/-- The pivots of the rows of half `h` after `j` elimination steps, one on the rows not reached. -/
def dd (p : FVec F S16x128 .f32) (j : ℕ) : Bool → FVec F S8x128 .f32 :=
  Nat.rec (motive := fun _ => Bool → FVec F S8x128 .f32)
    (fun h => broadcast S8x128 (Scalar.ofBits .f32 0x3F800000#32))
    (fun j dj h => cond (Bool.xor h (Nat.ble 8 j)) (dj h)
      (select (cmpi .eq sub (broadcast S8x128 (BitVec.ofNat 32 (j % 8)))) (d p j) (dj h)))
    j

/-- The orthonormalised rows of `p`. -/
def orth (p : FVec F S16x128 .f32) : FVec F S16x128 .f32 :=
  concatenate S16x128 0 [⟨S8x128, mulf (y p 16 false) (rsqrt (dd p 16 false))⟩, ⟨S8x128, mulf (y p 16 true) (rsqrt (dd p 16 true))⟩]
    concatenates_S8x128_S8x128_S16x128_d0

/-- The second power iteration's projection. -/
def p2 (m : FVec F S128x7168 .bf16) (p1 : FVec F S16x128 .f32) : FVec F S16x128 .f32 :=
  matmul dot_S16x7168_S128x7168_S16x128_1_1_0_0_n_n none
    (truncf .bf16 (matmul dot_S16x128_S128x7168_S16x7168_1_0_0_1_n_n none (truncf .bf16 (orth p1) bitsLt_bf16_f32) m
      (constant S16x7168 .f32 0x00000000#32)) bitsLt_bf16_f32) m (constant S16x128 .f32 0x00000000#32)

/-- The scale of an absolute maximum: its 127th part, one when it is zero. -/
def scale (a : FVec F S16x1 .f32) : FVec F S16x1 .f32 :=
  select (cmpf .oeq a (broadcast S16x1 (Scalar.ofBits .f32 0x00000000#32))) (broadcast S16x1 (Scalar.ofBits .f32 0x3F800000#32))
    (divf a (broadcast S16x1 (Scalar.ofBits .f32 0x42FE0000#32)))

/-- The scales of the rows of a 16 by 128 matrix. -/
def ps (po : FVec F S16x128 .f32) : FVec F S16x1 .f32 :=
  scale (shapeCast S16x1 (multiReduction .maximumf [1] S16 (absf po) 0xFF800000#32 reduces_S16x128_S16 (.inl rfl) rfl) shapeCasts_S16_S16x1)

/-- The codes of the rows of a 16 by 128 matrix. -/
def pc (po : FVec F S16x128 .f32) : FVec F S16x128 .f32 :=
  minimumf (broadcast S16x128 (Scalar.ofBits .f32 0x42FE0000#32)) (maximumf (broadcast S16x128 (Scalar.ofBits .f32 0xC2FE0000#32))
    (roundeven (divf po (broadcastTo S16x128 (ps po) broadcasts_S16x1_S16x128))))

/-- The second factor: the codes of `po` with their scales times `m`. -/
def qn (m : FVec F S128x7168 .bf16) (po : FVec F S16x128 .f32) : FVec F S16x7168 .f32 :=
  mulf (matmul dot_S16x128_S128x7168_S16x7168_1_0_0_1_n_n none (truncf .bf16 (pc po) bitsLt_bf16_f32) m (constant S16x7168 .f32 0x00000000#32))
    (broadcastTo S16x7168 (ps po) broadcasts_S16x1_S16x7168)

/-- The scales of the rows of a 16 by 7168 matrix. -/
def qns (q : FVec F S16x7168 .f32) : FVec F S16x1 .f32 :=
  scale (shapeCast S16x1 (multiReduction .maximumf [1] S16 (absf q) 0xFF800000#32 reduces_S16x7168_S16 (.inl rfl) rfl) shapeCasts_S16_S16x1)

/-- The codes of the rows of a 16 by 7168 matrix. -/
def qnc (q : FVec F S16x7168 .f32) : FVec F S16x7168 .f32 :=
  minimumf (broadcast S16x7168 (Scalar.ofBits .f32 0x42FE0000#32)) (maximumf (broadcast S16x7168 (Scalar.ofBits .f32 0xC2FE0000#32))
    (roundeven (divf q (broadcastTo S16x7168 (qns q) broadcasts_S16x1_S16x7168))))

/-- What the two quantised factors leave of `m`. -/
def er (m : FVec F S128x7168 .bf16) (po : FVec F S16x128 .f32) (q : FVec F S16x7168 .f32) : FVec F S128x7168 .bf16 :=
  truncf .bf16 (subf (extf .f32 m bitsLt_bf16_f32) (matmul dot_S128x16_S16x7168_S128x7168_1_0_0_1_n_n none
    (transpose S128x16 [1, 0] (mulf (truncf .bf16 (pc po) bitsLt_bf16_f32) (broadcastTo S16x128 (truncf .bf16 (ps po) bitsLt_bf16_f32) broadcasts_S16x1_S16x128)) transposes_S16x128_p1_0_S128x16)
    (mulf (truncf .bf16 (qnc q) bitsLt_bf16_f32) (broadcastTo S16x7168 (truncf .bf16 (qns q) bitsLt_bf16_f32) broadcasts_S16x1_S16x7168))
    (constant S128x7168 .f32 0x00000000#32))) bitsLt_bf16_f32

/-- `x` with column `arg0` replaced by `v`. -/
def put (arg0 : BitVec 32) (v : FVec F S16x1 .f32) (x : FVec F S16x18 .f32) : FVec F S16x18 .f32 :=
  select (cmpi .eq (iota .tc S16x18 32 [1] iota_S16x18_d1_w32) (broadcast S16x18 arg0))
    (broadcastTo S16x18 (shapeCast S16x1 v shapeCasts_S16x1_S16x1) broadcasts_S16x1_S16x18) (shapeCast S16x18 x shapeCasts_S16x18_S16x18)

variable (m : (ℓ : Loc nD τ sig) → Buf (Elt F) ℓ)

/-- The sum of the gradient and the error of grid point `t`. -/
def M (c : Dev nD) (t : Fin cfg0.N) : FVec F S128x7168 .bf16 := k0_pay4 (iblk m c 0 t) (iblk m c 1 t)

/-- The first projection of grid point `t`. -/
def P1 (c : Dev nD) (t : Fin cfg0.N) : FVec F S16x128 .f32 := k0_pay5 (grid0.coords t) (M m c t) (iblk m c 3 t) (iblk m c 2 t)

/-- The second projection of grid point `t`, orthonormalised. -/
def PO (c : Dev nD) (t : Fin cfg0.N) : FVec F S16x128 .f32 := orth (p2 (M m c t) (P1 m c t))

/-- The second factor of grid point `t`. -/
def Q (c : Dev nD) (t : Fin cfg0.N) : FVec F S16x7168 .f32 := qn (M m c t) (PO m c t)

/-- What grid point `t`, the first, leaves in the block of the error. -/
theorem out4_A (c : Dev nD) (t : Fin cfg0.N) (h : t.val % 18 = 0) :
    ((outsAt0 m c t.val t.isLt).1 : Vec F S1x128x7168 .bf16) = shapeCast S1x128x7168 (er (M m c t) (PO m c t) (Q m c t)) shapeCasts_S128x7168_S1x128x7168 := by
  rw [outsAt0_A m c t h]
  frame_out
  sl_kernel_rfl

/-- What grid point `t` after the first leaves in the block of the error. -/
theorem out4_B (c : Dev nD) (t : Fin cfg0.N) (h : ¬t.val % 18 = 0) :
    ((outsAt0 m c t.val t.isLt).1 : Vec F S1x128x7168 .bf16) = shapeCast S1x128x7168 (er (M m c t) (PO m c t) (Q m c t)) shapeCasts_S128x7168_S1x128x7168 := by
  rw [outsAt0_B m c t h]
  frame_out
  sl_kernel_rfl

/-- What grid point `t`, the first, leaves in the block of the first projection. -/
theorem out5_A (c : Dev nD) (t : Fin cfg0.N) (h : t.val % 18 = 0) :
    ((outsAt0 m c t.val t.isLt).2.1 : Vec F S1x16x128 .f32) = shapeCast S1x16x128 (P1 m c t) shapeCasts_S16x128_S1x16x128 := by
  rw [outsAt0_A m c t h]
  frame_out
  sl_kernel_rfl

/-- What grid point `t` after the first leaves in the block of the first projection. -/
theorem out5_B (c : Dev nD) (t : Fin cfg0.N) (h : ¬t.val % 18 = 0) :
    ((outsAt0 m c t.val t.isLt).2.1 : Vec F S1x16x128 .f32) = shapeCast S1x16x128 (P1 m c t) shapeCasts_S16x128_S1x16x128 := by
  rw [outsAt0_B m c t h]
  frame_out
  sl_kernel_rfl

/-- What grid point `t`, the first, leaves in the block of the first codes. -/
theorem out6_A (c : Dev nD) (t : Fin cfg0.N) (h : t.val % 18 = 0) :
    ((outsAt0 m c t.val t.isLt).2.2.1 : Vec F S1x16x128 .i8) = shapeCast S1x16x128 (fptosi 8 (pc (PO m c t))) shapeCasts_S16x128_S1x16x128 := by
  rw [outsAt0_A m c t h]
  frame_out
  sl_kernel_rfl

/-- What grid point `t` after the first leaves in the block of the first codes. -/
theorem out6_B (c : Dev nD) (t : Fin cfg0.N) (h : ¬t.val % 18 = 0) :
    ((outsAt0 m c t.val t.isLt).2.2.1 : Vec F S1x16x128 .i8) = shapeCast S1x16x128 (fptosi 8 (pc (PO m c t))) shapeCasts_S16x128_S1x16x128 := by
  rw [outsAt0_B m c t h]
  frame_out
  sl_kernel_rfl

/-- What grid point `t`, the first, leaves in the block of the first scales. -/
theorem out7_A (c : Dev nD) (t : Fin cfg0.N) (h : t.val % 18 = 0) :
    ((outsAt0 m c t.val t.isLt).2.2.2.1 : Vec F S16x18 .f32) = put (BitVec.ofNat 32 (grid0.coords t 0).val) (ps (PO m c t)) (broadcast S16x18 (Scalar.ofBits .f32 0x00000000#32)) := by
  rw [outsAt0_A m c t h]
  frame_out
  sl_kernel_rfl

/-- What grid point `t` after the first leaves in the block of the first scales. -/
theorem out7_B (c : Dev nD) (t : Fin cfg0.N) (h : ¬t.val % 18 = 0) :
    ((outsAt0 m c t.val t.isLt).2.2.2.1 : Vec F S16x18 .f32) = put (BitVec.ofNat 32 (grid0.coords t 0).val) (ps (PO m c t)) ((outsAt0 m c (t.val - 1) (Nat.lt_of_le_of_lt (Nat.sub_le _ _) t.isLt)).2.2.2.1) := by
  rw [outsAt0_B m c t h]
  frame_out
  sl_kernel_rfl

/-- What grid point `t`, the first, leaves in the block of the second codes. -/
theorem out8_A (c : Dev nD) (t : Fin cfg0.N) (h : t.val % 18 = 0) :
    ((outsAt0 m c t.val t.isLt).2.2.2.2.1 : Vec F S1x16x7168 .i8) = shapeCast S1x16x7168 (fptosi 8 (qnc (Q m c t))) shapeCasts_S16x7168_S1x16x7168 := by
  rw [outsAt0_A m c t h]
  frame_out
  sl_kernel_rfl

/-- What grid point `t` after the first leaves in the block of the second codes. -/
theorem out8_B (c : Dev nD) (t : Fin cfg0.N) (h : ¬t.val % 18 = 0) :
    ((outsAt0 m c t.val t.isLt).2.2.2.2.1 : Vec F S1x16x7168 .i8) = shapeCast S1x16x7168 (fptosi 8 (qnc (Q m c t))) shapeCasts_S16x7168_S1x16x7168 := by
  rw [outsAt0_B m c t h]
  frame_out
  sl_kernel_rfl

/-- What grid point `t`, the first, leaves in the block of the second scales. -/
theorem out9_A (c : Dev nD) (t : Fin cfg0.N) (h : t.val % 18 = 0) :
    ((outsAt0 m c t.val t.isLt).2.2.2.2.2 : Vec F S16x18 .f32) = put (BitVec.ofNat 32 (grid0.coords t 0).val) (qns (Q m c t)) (broadcast S16x18 (Scalar.ofBits .f32 0x00000000#32)) := by
  rw [outsAt0_A m c t h]
  frame_out
  sl_kernel_rfl

/-- What grid point `t` after the first leaves in the block of the second scales. -/
theorem out9_B (c : Dev nD) (t : Fin cfg0.N) (h : ¬t.val % 18 = 0) :
    ((outsAt0 m c t.val t.isLt).2.2.2.2.2 : Vec F S16x18 .f32) = put (BitVec.ofNat 32 (grid0.coords t 0).val) (qns (Q m c t)) ((outsAt0 m c (t.val - 1) (Nat.lt_of_le_of_lt (Nat.sub_le _ _) t.isLt)).2.2.2.2.2) := by
  rw [outsAt0_B m c t h]
  frame_out
  sl_kernel_rfl

end Cert.KernelIdeal.Model
-- ==== Proof.Alg.lean ====
module

public import Idealize.ShloMosaic.PureOps.Ideal
public import Idealize.ShloMosaic.Lib.Pipeline.ValueKit
public import Mathlib.Tactic.Ring
public import Mathlib.Tactic.FieldSimp
public import Mathlib.Tactic.NormNum

@[expose] public section

noncomputable section

namespace Cert.Alg

open Idealize.ShloMosaic

/-! ## Real numbers among the extended reals -/

/-- `x` is a real number. -/
def IsR (x : EReal) : Prop := ∃ r : ℝ, x = (r : EReal)

/-- A real number is real. -/
theorem IsR.coe (r : ℝ) : IsR (r : EReal) := ⟨r, rfl⟩
/-- Zero is real. -/
theorem IsR.zero : IsR 0 := ⟨0, rfl⟩

/-- A sum of reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A product of reals is real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers is the real number that is their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsR.sum {ι : Type*} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-! ## Elimination over the reals -/

variable {L : Type*} [Fintype L]

/-- The inner product. -/
def ip (u v : L → ℝ) : ℝ := ∑ l, u l * v l

/-- The inner product is symmetric. -/
theorem ip_comm (u v : L → ℝ) : ip u v = ip v u := Finset.sum_congr rfl fun _ _ => mul_comm _ _

/-- A vector's inner product with itself is not negative. -/
theorem ip_self_nonneg (u : L → ℝ) : 0 ≤ ip u u := Finset.sum_nonneg fun _ _ => mul_self_nonneg _

/-- A vector whose inner product with itself is zero is zero. -/
theorem eq_zero_of_ip {u : L → ℝ} (h : ip u u = 0) : ∀ l, u l = 0 := fun l =>
  mul_self_eq_zero.1 ((Finset.sum_eq_zero_iff_of_nonneg fun _ _ => mul_self_nonneg _).1 h l (Finset.mem_univ l))

/-- The inner product with a vector of length zero is zero. -/
theorem ip_eq_zero {u v : L → ℝ} (h : ip v v = 0) : ip u v = 0 :=
  Finset.sum_eq_zero fun l _ => by rw [eq_zero_of_ip h l, mul_zero]

/-- Taking multiples of `v` off two vectors changes their inner product as one elimination step does. -/
theorem ip_step (u w v : L → ℝ) :
    ip (fun l => u l - ip u v / ip v v * v l) (fun l => w l - ip w v / ip v v * v l)
      = ip u w - ip u v / ip v v * ip w v := by
  have e : ∀ a b : ℝ, ip (fun l => u l - a * v l) (fun l => w l - b * v l)
      = ip u w - b * ip u v - a * ip w v + a * b * ip v v := by
    intro a b
    simp only [ip, Finset.mul_sum, ← Finset.sum_sub_distrib, ← Finset.sum_add_distrib]
    exact Finset.sum_congr rfl fun l _ => by ring
  rw [e]
  by_cases h : ip v v = 0
  · rw [ip_eq_zero (u := u) h, ip_eq_zero (u := w) h]; simp
  · field_simp; ring

/-- The rows after `j` steps of elimination. -/
def yr (P : ℕ → L → ℝ) : ℕ → ℕ → L → ℝ
  | 0, k => P k
  | j + 1, k => fun l => yr P j k l - ip (yr P j k) (yr P j j) / ip (yr P j j) (yr P j j) * yr P j j l

/-- The orthonormalised rows. -/
def gs (P : ℕ → L → ℝ) (k : ℕ) (l : L) : ℝ := yr P k k l * (Real.sqrt (ip (yr P k k) (yr P k k)))⁻¹

/-! ## The two orders of the same elimination over the extended reals -/

/-- The reciprocal of a real that is not zero is the real reciprocal. -/
theorem div_one_pos {d : ℝ} (h : d ≠ 0) : Ideal.div 1 (d : EReal) = ((d⁻¹ : ℝ) : EReal) := by
  rw [Ideal.div_coe h, one_mul, one_div]

/-- The root of a real that is not negative is the real root. -/
theorem sqrt_coe {d : ℝ} (h : 0 ≤ d) : Ideal.sqrt (d : EReal) = ((Real.sqrt d : ℝ) : EReal) := by
  show (if d < 0 then (⊥ : EReal) else _) = _
  rw [if_neg (not_lt.2 h)]

/-- The reciprocal root of a positive real is the real one. -/
theorem rsqrt_coe {d : ℝ} (h : 0 < d) : Ideal.rsqrt (d : EReal) = (((Real.sqrt d)⁻¹ : ℝ) : EReal) := by
  show (if d < 0 then (⊥ : EReal) else if d = 0 then _ else _) = _
  rw [if_neg (not_lt.2 h.le), if_neg h.ne']

/-- The matrix of inner products by rows, kept from row `j` on. -/
def sK (P : ℕ → L → EReal) : ℕ → ℕ → ℕ → EReal
  | 0, i, k => ∑ l, P k l * P i l
  | j + 1, i, k => if i ≤ j then sK P j i k else sK P j i k - sK P j j i * Ideal.div 1 (sK P j j j) * sK P j j k

/-- The rows, each taken off the later ones with the multiplier of its step. -/
def yK (P : ℕ → L → EReal) : ℕ → ℕ → L → EReal
  | 0, k, l => P k l
  | j + 1, k, l => if k ≤ j then yK P j k l else yK P j k l - sK P j j k * Ideal.div 1 (sK P j j j) * yK P j j l

/-- The matrix of inner products with symmetric steps. -/
def gR (P : ℕ → L → EReal) : ℕ → ℕ → ℕ → EReal
  | 0, i, k => ∑ l, P i l * P k l
  | j + 1, i, k => gR P j i k - gR P j i j * Ideal.div 1 (Ideal.sqrt (gR P j j j)) * (gR P j k j * Ideal.div 1 (Ideal.sqrt (gR P j j j)))

/-- The rows, each solved against the triangular factor. -/
def pR (P : ℕ → L → EReal) : ℕ → ℕ → L → EReal
  | 0, k, l => P k l
  | j + 1, k, l => pR P j k l - pR P j j l * Ideal.div 1 (Ideal.sqrt (gR P j j j)) * (gR P j k j * Ideal.div 1 (Ideal.sqrt (gR P j j j)))

section

variable {P : ℕ → L → EReal} {p : ℕ → L → ℝ} (h : ∀ k l, P k l = (p k l : EReal))
include h

/-- The kernel's inner products after `j` steps are the inner products of the residual rows. -/
theorem sK_eq (j : ℕ) : ∀ i k, j ≤ i → j ≤ k → sK P j i k = ((ip (yr p j i) (yr p j k) : ℝ) : EReal) := by
  induction j with
  | zero =>
    intro i k _ _
    simp only [sK, h, yr, ip, ← EReal.coe_mul, coe_sum]
    exact congrArg _ (Finset.sum_congr rfl fun _ _ => mul_comm _ _)
  | succ j ih =>
    intro i k hi hk
    rw [sK, if_neg (by omega), ih i k (by omega) (by omega), ih j i le_rfl (by omega), ih j j le_rfl le_rfl,
      ih j k le_rfl (by omega)]
    rw [show ip (yr p (j + 1) i) (yr p (j + 1) k) = _ from ip_step (yr p j i) (yr p j k) (yr p j j), ip_comm (yr p j j) (yr p j i), ip_comm (yr p j j) (yr p j k)]
    by_cases hd : ip (yr p j j) (yr p j j) = 0
    · rw [ip_eq_zero (u := yr p j i) hd]; simp
    · rw [div_one_pos hd, ← EReal.coe_mul, ← EReal.coe_mul, ← EReal.coe_sub, div_eq_mul_inv]

/-- The kernel's rows after `j` steps are the residual rows. -/
theorem yK_eq (j : ℕ) : ∀ k l, j ≤ k → yK P j k l = ((yr p j k l : ℝ) : EReal) := by
  induction j with
  | zero => intro k l _; exact h k l
  | succ j ih =>
    intro k l hk
    rw [yK, if_neg (by omega), ih k l (by omega), ih j l le_rfl, sK_eq h j j k le_rfl (by omega), sK_eq h j j j le_rfl le_rfl]
    show _ = ((yr p j k l - ip (yr p j k) (yr p j j) / ip (yr p j j) (yr p j j) * yr p j j l : ℝ) : EReal)
    rw [ip_comm (yr p j j) (yr p j k)]
    by_cases hd : ip (yr p j j) (yr p j j) = 0
    · rw [ip_eq_zero (u := yr p j k) hd]; simp
    · rw [div_one_pos hd, ← EReal.coe_mul, ← EReal.coe_mul, ← EReal.coe_sub, div_eq_mul_inv]

omit h in
/-- A row is left alone after its own step. -/
theorem yK_done (P : ℕ → L → EReal) (k : ℕ) (l : L) : ∀ j, k ≤ j → yK P j k l = yK P k k l := by
  intro j hj
  induction j, hj using Nat.le_induction with
  | base => rfl
  | succ j hj ih => rw [yK, if_pos hj, ih]

omit h in
/-- A row of inner products is left alone after its own step. -/
theorem sK_done (P : ℕ → L → EReal) (i k : ℕ) : ∀ j, i ≤ j → sK P j i k = sK P i i k := by
  intro j hj
  induction j, hj using Nat.le_induction with
  | base => rfl
  | succ j hj ih => rw [sK, if_pos hj, ih]

/-- What the kernel's order leaves is the orthonormalised row. -/
theorem kernel_gs (n k : ℕ) (hk : k ≤ n) (l : L) : yK P n k l * Ideal.rsqrt (sK P k k k) = ((gs p k l : ℝ) : EReal) := by
  rw [yK_done P k l n hk, yK_eq h k k l le_rfl, sK_eq h k k k le_rfl le_rfl]
  by_cases hd : ip (yr p k k) (yr p k k) = 0
  · rw [gs, eq_zero_of_ip hd l]; simp
  · rw [rsqrt_coe (lt_of_le_of_ne (ip_self_nonneg _) (Ne.symm hd)), ← EReal.coe_mul, gs]

omit [Fintype L] h in
/-- Two products with the reciprocal of the root of a pivot are one with the reciprocal of the pivot. -/
theorem root_mul {a b : ℝ} {d : ℝ} (hd : 0 ≤ d) (ha : d = 0 → a = 0) (hb : d = 0 → b = 0) :
    (a : EReal) * Ideal.div 1 (Ideal.sqrt (d : EReal)) * ((b : EReal) * Ideal.div 1 (Ideal.sqrt (d : EReal)))
      = ((a / d * b : ℝ) : EReal) := by
  by_cases h0 : d = 0
  · rw [ha h0, hb h0]; simp
  · have hs : Real.sqrt d ≠ 0 := fun e => h0 ((Real.sqrt_eq_zero hd).1 e)
    rw [sqrt_coe hd, div_one_pos hs, ← EReal.coe_mul, ← EReal.coe_mul, ← EReal.coe_mul]
    refine congrArg _ ?_
    have : d = Real.sqrt d * Real.sqrt d := (Real.mul_self_sqrt hd).symm
    conv_rhs => rw [this]
    field_simp

/-- The reference's matrix after `j` steps holds the inner products of the residual rows. -/
theorem gR_eq (j : ℕ) : ∀ i k, j ≤ i → j ≤ k → gR P j i k = ((ip (yr p j i) (yr p j k) : ℝ) : EReal) := by
  induction j with
  | zero =>
    intro i k _ _
    simp only [gR, h, yr, ip, ← EReal.coe_mul, coe_sum]
  | succ j ih =>
    intro i k hi hk
    rw [gR, ih i k (by omega) (by omega), ih i j (by omega) le_rfl, ih j j le_rfl le_rfl, ih k j (by omega) le_rfl]
    rw [show ip (yr p (j + 1) i) (yr p (j + 1) k) = _ from ip_step (yr p j i) (yr p j k) (yr p j j), root_mul (ip_self_nonneg _) ip_eq_zero ip_eq_zero, ← EReal.coe_sub]

/-- The reference's columns after `j` steps are the residual rows. -/
theorem pR_eq (j : ℕ) : ∀ k l, j ≤ k → pR P j k l = ((yr p j k l : ℝ) : EReal) := by
  induction j with
  | zero => intro k l _; exact h k l
  | succ j ih =>
    intro k l hk
    rw [pR, ih k l (by omega), ih j l le_rfl, gR_eq h j k j (by omega) le_rfl, gR_eq h j j j le_rfl le_rfl,
      root_mul (ip_self_nonneg _) (fun e => eq_zero_of_ip e l) ip_eq_zero, ← EReal.coe_sub]
    show _ = ((yr p j k l - ip (yr p j k) (yr p j j) / ip (yr p j j) (yr p j j) * yr p j j l : ℝ) : EReal)
    refine congrArg _ (congrArg _ ?_)
    ring

/-- What the reference's order leaves is the same row. -/
theorem reference_gs (k : ℕ) (l : L) : pR P k k l * Ideal.div 1 (Ideal.sqrt (gR P k k k)) = ((gs p k l : ℝ) : EReal) := by
  rw [pR_eq h k k l le_rfl, gR_eq h k k k le_rfl le_rfl]
  by_cases hd : ip (yr p k k) (yr p k k) = 0
  · rw [gs, eq_zero_of_ip hd l]; simp
  · have hs : Real.sqrt (ip (yr p k k) (yr p k k)) ≠ 0 := fun e => hd ((Real.sqrt_eq_zero (ip_self_nonneg _)).1 e)
    rw [sqrt_coe (ip_self_nonneg _), div_one_pos hs, ← EReal.coe_mul, gs]

end

/-! ## Codes of eight bits -/

/-- A number rounded and clipped to `[-127, 127]` is the whole number that its code of eight bits reads as. -/
theorem code_roundtrip (z : EReal) :
    (((Ideal.fptosi 8 (min (127 : ℝ) (max ((-127 : ℝ) : EReal) (Ideal.liftRound Ideal.roundHalfEven z)))).toInt : ℝ) : EReal)
      = min ((127 : ℝ) : EReal) (max ((-127 : ℝ) : EReal) (Ideal.liftRound Ideal.roundHalfEven z)) := by
  have key : ∃ n : ℤ, -127 ≤ n ∧ n ≤ 127 ∧
      min ((127 : ℝ) : EReal) (max ((-127 : ℝ) : EReal) (Ideal.liftRound Ideal.roundHalfEven z)) = ((n : ℝ) : EReal) := by
    induction z with
    | bot => exact ⟨-127, by norm_num, by norm_num, by
        rw [Ideal.liftRound_bot, max_eq_left bot_le, min_eq_right (EReal.coe_le_coe_iff.2 (by norm_num))]; norm_num⟩
    | top => exact ⟨127, by norm_num, by norm_num, by simp⟩
    | coe r =>
      refine ⟨min 127 (max (-127) (Ideal.roundHalfEven r)), by omega, by omega, ?_⟩
      rw [Ideal.liftRound_coe, ← EReal.coe_strictMono.monotone.map_max, ← EReal.coe_strictMono.monotone.map_min]
      push_cast
      rfl
  obtain ⟨n, h1, h2, e⟩ := key
  rw [e]
  have : Ideal.fptosi 8 ((n : ℝ) : EReal) = BitVec.ofInt 8 n := by
    rw [Ideal.fptosi, Ideal.toIntClamped_coe]
    refine congrArg _ ?_
    rw [Int.floor_intCast, Int.ceil_intCast]
    split <;> omega
  rw [this, BitVec.toInt_ofInt_eq_self (by norm_num) (by norm_num; omega) (by norm_num; omega)]

end Cert.Alg
-- ==== Proof.Spec.lean ====
module

public import proofs.«01_k».proof.Proof.Alg

@[expose] public section

noncomputable section

namespace Cert.Spec

open Idealize.ShloMosaic Cert.Alg

/-- The rows of `p`, by natural numbers. -/
def rows (p : Fin 16 → Fin 128 → EReal) (k : ℕ) (l : Fin 128) : EReal := p ⟨k % 16, Nat.mod_lt _ (by decide)⟩ l

/-- The orthonormalised rows of `p`. -/
def orth (p : Fin 16 → Fin 128 → EReal) (r : Fin 16) (l : Fin 128) : EReal :=
  ((gs (fun k l => (rows p k l).toReal) r.val l : ℝ) : EReal)

/-- Orthonormalised rows are real. -/
theorem orth_real (p : Fin 16 → Fin 128 → EReal) (r : Fin 16) (l : Fin 128) : IsR (orth p r l) := ⟨_, rfl⟩

/-- Rows of real numbers are their real parts. -/
theorem rows_real {p : Fin 16 → Fin 128 → EReal} (h : ∀ r l, IsR (p r l)) (k : ℕ) (l : Fin 128) :
    rows p k l = (((rows p k l).toReal : ℝ) : EReal) := by
  obtain ⟨x, hx⟩ := h ⟨k % 16, Nat.mod_lt _ (by decide)⟩ l
  unfold rows; rw [hx, EReal.toReal_coe]

/-- A row below the sixteenth is the row. -/
theorem rows_fin (p : Fin 16 → Fin 128 → EReal) (r : Fin 16) (l : Fin 128) : rows p r.val l = p r l :=
  congrArg (fun q => p q l) (Fin.ext (Nat.mod_eq_of_lt r.isLt))

/-- The first projection: the old factor, its codes `qc` with scales `qs`, times the rows of `m`. -/
def p1 (m : Fin 128 → Fin 7168 → EReal) (qc : Fin 16 → Fin 7168 → EReal) (qs : Fin 16 → EReal) (r : Fin 16) (l : Fin 128) : EReal :=
  (∑ d : Fin 7168, qc r d * m l d) * qs r

/-- The second projection of the rows `o`. -/
def p2 (m : Fin 128 → Fin 7168 → EReal) (o : Fin 16 → Fin 128 → EReal) (r : Fin 16) (l : Fin 128) : EReal :=
  ∑ d : Fin 7168, (∑ k : Fin 128, o r k * m k d) * m l d

/-- The scales of the rows of `v`. -/
def sc {n : ℕ} (v : Fin 16 → Fin n → EReal) (r : Fin 16) : EReal :=
  if (Finset.univ.fold max (Ideal.ofBits .f32 0xFF800000#32) fun x : Fin n => FloatOps.absf (F := Ideal) (φ := .f32) (v r x)) = 0 then 1
  else Ideal.div (Finset.univ.fold max (Ideal.ofBits .f32 0xFF800000#32) fun x : Fin n => FloatOps.absf (F := Ideal) (φ := .f32) (v r x))
    (Ideal.ofBits .f32 0x42FE0000#32)

/-- The codes of the rows of `v`. -/
def cd {n : ℕ} (v : Fin 16 → Fin n → EReal) (r : Fin 16) (x : Fin n) : EReal :=
  min ((127 : ℝ) : EReal) (max ((-127 : ℝ) : EReal) (Ideal.liftRound Ideal.roundHalfEven (Ideal.div (v r x) (sc v r))))

/-- The second factor of the rows `po`. -/
def qn (m : Fin 128 → Fin 7168 → EReal) (po : Fin 16 → Fin 128 → EReal) (r : Fin 16) (d : Fin 7168) : EReal :=
  (∑ l : Fin 128, cd po r l * m l d) * sc po r

/-- What the two quantised factors leave of `m`. -/
def er (m : Fin 128 → Fin 7168 → EReal) (po : Fin 16 → Fin 128 → EReal) (l : Fin 128) (d : Fin 7168) : EReal :=
  m l d - ∑ r : Fin 16, cd po r l * sc po r * (cd (qn m po) r d * sc (qn m po) r)

/-- The second projection of the first, orthonormalised before and after. -/
def po (m : Fin 128 → Fin 7168 → EReal) (qc : Fin 16 → Fin 7168 → EReal) (qs : Fin 16 → EReal) : Fin 16 → Fin 128 → EReal :=
  orth (p2 m (orth (p1 m qc qs)))

/-- The first projection of reals is real. -/
theorem p1_real {m : Fin 128 → Fin 7168 → EReal} {qc : Fin 16 → Fin 7168 → EReal} {qs : Fin 16 → EReal}
    (hm : ∀ l d, IsR (m l d)) (hc : ∀ r d, IsR (qc r d)) (hs : ∀ r, IsR (qs r)) (r : Fin 16) (l : Fin 128) : IsR (p1 m qc qs r l) :=
  (IsR.sum _ _ fun _ => (hc _ _).mul (hm _ _)).mul (hs _)

/-- The second projection of reals is real. -/
theorem p2_real {m : Fin 128 → Fin 7168 → EReal} {o : Fin 16 → Fin 128 → EReal}
    (hm : ∀ l d, IsR (m l d)) (ho : ∀ r l, IsR (o r l)) (r : Fin 16) (l : Fin 128) : IsR (p2 m o r l) :=
  IsR.sum _ _ fun _ => (IsR.sum _ _ fun _ => (ho _ _).mul (hm _ _)).mul (hm _ _)

/-- The word of 127. -/
theorem ofBits_127 : Ideal.ofBits .f32 0x42FE0000#32 = ((127 : ℝ) : EReal) := by
  simp [Ideal.ofBits, Ideal.ieee, -EReal.coe_mul, -EReal.coe_neg]
  norm_num

/-- The word of -127. -/
theorem ofBits_m127 : Ideal.ofBits .f32 0xC2FE0000#32 = ((-127 : ℝ) : EReal) := by
  simp [Ideal.ofBits, Ideal.ieee, -EReal.coe_mul, -EReal.coe_neg]
  norm_num

end Cert.Spec
-- ==== Proof.KPoint.lean ====
module

public import proofs.«01_k».proof.Proof.KModel
public import proofs.«01_k».proof.Proof.Spec
public import Idealize.ShloMosaic.Lib.Pointwise

@[expose] public section

set_option maxRecDepth 16384

noncomputable section

namespace Cert.KernelIdeal.Model

open Idealize.ShloMosaic Idealize.ShloMosaic.TcCoe Idealize.SL.Sem
open Cert.KernelIdeal Cert.KernelIdeal.Gen Cert.Alg

/-- Row `i % 8`, repeated, at an index. -/
theorem row_apply (i : ℕ) (x : FVec Ideal S8x128 .f32) (r : Fin 8) (l : Fin 128) :
    row i x (ix2 r l) = x (ix2 ⟨i % 8, Nat.mod_lt _ (by decide)⟩ l) := by
  pointwise [row]

/-- The products of the rows of `x` and `y`, summed along the lane, at an index. -/
theorem gram_apply (x y : FVec Ideal S8x128 .f32) (r : Fin 8) (l : Fin 128) :
    gram x y (ix2 r l) = ∑ k : Fin 128, x (ix2 r k) * y (ix2 r k) := by
  pointwise [gram]

/-- The row of the whole that row `r` of half `h` is. -/
def whole (h : Bool) (r : Fin 8) : Fin 16 := ⟨r.val + cond h 8 0, by cases h <;> simp <;> omega⟩

/-- The rows of `p` as numbers. -/
abbrev mat (p : FVec Ideal S16x128 .f32) (r : Fin 16) (l : Fin 128) : EReal := p (ix2 r l)

/-- The rows of `p` by natural numbers. -/
abbrev Rw (p : FVec Ideal S16x128 .f32) : ℕ → Fin 128 → EReal := Cert.Spec.rows (mat p)

/-- A half of the rows, at an index. -/
theorem half_apply (p : FVec Ideal S16x128 .f32) (h : Bool) (r : Fin 8) (l : Fin 128) :
    half p h (ix2 r l) = Rw p (whole h r).val l := by
  refine Eq.trans ?_ (Cert.Spec.rows_fin (mat p) (whole h r) l).symm
  cases h <;> pointwise [half]
  · rfl
  · exact congrArg (fun q => p (ix2 q l)) (Fin.ext (Nat.add_comm _ _))

/-- Row `i % 8` of the half that row `i` is in is row `i`. -/
theorem whole_row {i : ℕ} (hi : i < 16) : (whole (Nat.ble 8 i) ⟨i % 8, Nat.mod_lt _ (by decide)⟩).val = i := by
  show i % 8 + cond (Nat.ble 8 i) 8 0 = i
  by_cases h : 8 ≤ i
  · rw [Nat.ble_eq_true_of_le h]; simp; omega
  · have : Nat.ble 8 i = false := by rw [← Bool.not_eq_true, Nat.ble_eq]; exact h
    rw [this]; simp; omega

/-- One step of the inner products. -/
theorem s_succ (p : FVec Ideal S16x128 .f32) (j : ℕ) (h : Bool) (i : ℕ) :
    s p (j + 1) h i = cond (Nat.ble i j) (s p j h i)
      (subf (s p j h i) (mulf (row i (mulf (s p j (Nat.ble 8 i) j)
        (divf (broadcast S8x128 (Scalar.ofBits .f32 0x3F800000#32)) (row j (s p j (Nat.ble 8 j) j))))) (s p j h j))) := rfl

/-- The inner products after `j` steps, at an index. -/
theorem s_apply (p : FVec Ideal S16x128 .f32) (j : ℕ) (hj : j ≤ 16) : ∀ (h : Bool) (i : ℕ) (hi : i < 16) (r : Fin 8) (l : Fin 128),
    s p j h i (ix2 r l) = sK (Rw p) j i (whole h r).val := by
  induction j with
  | zero =>
    intro h i hi r l
    show gram (half p h) (row i (half p (Nat.ble 8 i))) (ix2 r l) = _
    rw [gram_apply]
    refine Finset.sum_congr rfl fun k _ => ?_
    rw [row_apply, half_apply, half_apply, whole_row hi]
  | succ j ih =>
    intro h i hi r l
    rw [s_succ, sK]
    by_cases hij : i ≤ j
    · rw [Nat.ble_eq_true_of_le hij, if_pos hij]
      exact ih (by omega) h i hi r l
    · have hb : Nat.ble i j = false := by rw [← Bool.not_eq_true, Nat.ble_eq]; exact hij
      rw [hb, if_neg hij]
      show (subf _ _ : FVec Ideal S8x128 .f32) (ix2 r l) = _
      pointwise [row_apply]
      rw [ih (by omega) h i hi, ih (by omega) _ j (by omega), ih (by omega) _ j (by omega), ih (by omega) _ j (by omega),
        whole_row hi, whole_row (by omega : j < 16)]

/-- The pivot of step `j`. -/
theorem d_apply (p : FVec Ideal S16x128 .f32) (j : ℕ) (hj : j < 16) (r : Fin 8) (l : Fin 128) :
    d p j (ix2 r l) = sK (Rw p) j j j := by
  rw [d, row_apply, s_apply p j hj.le _ j hj, whole_row hj]

/-- The multipliers of step `j`. -/
theorem f_apply (p : FVec Ideal S16x128 .f32) (j : ℕ) (hj : j < 16) (h : Bool) (r : Fin 8) (l : Fin 128) :
    f p j h (ix2 r l) = sK (Rw p) j j (whole h r).val * Ideal.div 1 (sK (Rw p) j j j) := by
  pointwise [f]
  rw [d_apply p j hj, s_apply p j hj.le _ j hj]

/-- The multipliers of step `j`, only of the later rows. -/
theorem fm_apply (p : FVec Ideal S16x128 .f32) (j : ℕ) (h : Bool) (r : Fin 8) (l : Fin 128) :
    fm p j h (ix2 r l) = if j % 8 < r.val then f p j h (ix2 r l) else 0 := by
  pointwise [fm, sub]
  generalize hk : j % 8 = k
  have hk8 : k < 8 := hk ▸ Nat.mod_lt _ (by decide)
  have e : IntOp.cmpi .sgt (BitVec.ofNat 32 r.val) (BitVec.ofNat 32 k) = if k < r.val then 1#1 else 0#1 :=
    (by decide : ∀ (a b : Fin 8), IntOp.cmpi .sgt (BitVec.ofNat 32 a.val) (BitVec.ofNat 32 b.val) = if b.val < a.val then 1#1 else 0#1) r ⟨k, hk8⟩
  rw [e]
  by_cases hh : k < r.val
  · rw [if_pos hh, if_pos hh]; rfl
  · rw [if_neg hh, if_neg hh]; rfl

/-- One step of the rows. -/
theorem y_succ (p : FVec Ideal S16x128 .f32) (j : ℕ) (h : Bool) :
    y p (j + 1) h = cond (Nat.ble 8 j)
      (cond h (subf (y p j h) (mulf (fm p j true) (row j (y p j true)))) (y p j h))
      (subf (y p j h) (mulf (cond h (f p j true) (fm p j false)) (row j (y p j false)))) := rfl

/-- The rows after `j` steps, at an index. -/
theorem y_apply (p : FVec Ideal S16x128 .f32) (j : ℕ) (hj : j ≤ 16) : ∀ (h : Bool) (r : Fin 8) (l : Fin 128),
    y p j h (ix2 r l) = yK (Rw p) j (whole h r).val l := by
  induction j with
  | zero => intro h r l; exact half_apply p h r l
  | succ j ih =>
    intro h r l
    have hj' : j < 16 := by omega
    have hr := whole_row hj'
    have hw : (whole h r).val = r.val + cond h 8 0 := rfl
    rw [y_succ, yK]
    by_cases h8 : 8 ≤ j
    · rw [Nat.ble_eq_true_of_le h8] at hr ⊢
      cases h
      · rw [if_pos (by rw [hw]; simp; omega)]
        exact ih (by omega) false r l
      · show (subf _ _ : FVec Ideal S8x128 .f32) (ix2 r l) = _
        pointwise [row_apply, fm_apply]
        rw [ih (by omega), ih (by omega), hr, f_apply p j hj']
        by_cases hk : (whole true r).val ≤ j
        · rw [if_pos hk, if_neg (by rw [hw] at hk; simp at hk; omega), zero_mul, sub_zero]
        · rw [if_neg hk, if_pos (by rw [hw] at hk; simp at hk; omega)]
    · have hb : Nat.ble 8 j = false := by rw [← Bool.not_eq_true, Nat.ble_eq]; exact h8
      rw [hb] at hr ⊢
      show (subf _ _ : FVec Ideal S8x128 .f32) (ix2 r l) = _
      cases h
      · show (subf (y p j false) (mulf (fm p j false) _) : FVec Ideal S8x128 .f32) (ix2 r l) = _
        pointwise [row_apply, fm_apply]
        rw [ih (by omega), ih (by omega), hr, f_apply p j hj']
        by_cases hk : (whole false r).val ≤ j
        · rw [if_pos hk, if_neg (by rw [hw] at hk; simp at hk; omega), zero_mul, sub_zero]
        · rw [if_neg hk, if_pos (by rw [hw] at hk; simp at hk; omega)]
      · show (subf (y p j true) (mulf (f p j true) _) : FVec Ideal S8x128 .f32) (ix2 r l) = _
        pointwise [row_apply]
        rw [ih (by omega), ih (by omega), hr, f_apply p j hj', if_neg (by rw [hw]; simp; omega)]

/-- One step of the array of pivots. -/
theorem dd_succ (p : FVec Ideal S16x128 .f32) (j : ℕ) (h : Bool) :
    dd p (j + 1) h = cond (Bool.xor h (Nat.ble 8 j)) (dd p j h)
      (select (cmpi .eq sub (broadcast S8x128 (BitVec.ofNat 32 (j % 8)))) (d p j) (dd p j h)) := rfl

/-- Comparing the words of two numbers below 18 compares the numbers. -/
theorem eq_word (a b : Fin 18) : IntOp.cmpi .eq (BitVec.ofNat 32 a.val) (BitVec.ofNat 32 b.val) = if a.val = b.val then 1#1 else 0#1 := by
  revert a b; decide

/-- The array of pivots holds the pivot of every row whose step is past. -/
theorem dd_apply (p : FVec Ideal S16x128 .f32) (j : ℕ) (hj : j ≤ 16) : ∀ (h : Bool) (r : Fin 8) (l : Fin 128),
    (whole h r).val < j → dd p j h (ix2 r l) = sK (Rw p) (whole h r).val (whole h r).val (whole h r).val := by
  induction j with
  | zero => intro h r l h0; omega
  | succ j ih =>
    intro h r l hk
    have hj' : j < 16 := by omega
    have hr := whole_row hj'
    have hw : (whole h r).val = r.val + cond h 8 0 := rfl
    have e := eq_word ⟨r.val, by omega⟩ ⟨j % 8, by omega⟩
    have hsel : (select (cmpi .eq sub (broadcast S8x128 (BitVec.ofNat 32 (j % 8)))) (d p j) (dd p j h) : FVec Ideal S8x128 .f32) (ix2 r l)
        = if r.val = j % 8 then d p j (ix2 r l) else dd p j h (ix2 r l) := by
      pointwise [sub]
      rw [e]
      by_cases hh : r.val = j % 8
      · rw [if_pos hh, if_pos hh]; rfl
      · rw [if_neg hh, if_neg hh]; rfl
    rw [dd_succ]
    by_cases hx : Bool.xor h (Nat.ble 8 j) = true
    · rw [hx]
      refine ih (by omega) h r l ?_
      by_cases h8 : 8 ≤ j
      · rw [Nat.ble_eq_true_of_le h8] at hx
        cases h
        · rw [hw]; simp; omega
        · simp at hx
      · have hb : Nat.ble 8 j = false := by rw [← Bool.not_eq_true, Nat.ble_eq]; exact h8
        rw [hb] at hx
        cases h
        · simp at hx
        · rw [hw] at hk; simp at hk; omega
    · rw [Bool.not_eq_true] at hx
      rw [hx]
      refine hsel.trans ?_
      have hh : h = Nat.ble 8 j := by cases h <;> cases hb : Nat.ble 8 j <;> simp_all
      by_cases hrj : r.val = j % 8
      · rw [if_pos hrj, d_apply p j hj']
        have : (whole h r).val = j := by
          rw [← hr, hh]; exact congrArg (fun q => (whole _ q).val) (Fin.ext hrj)
        rw [this]
      · rw [if_neg hrj]
        refine ih (by omega) h r l ?_
        rcases Nat.lt_succ_iff_lt_or_eq.1 hk with h1 | h1
        · exact h1
        · exfalso
          apply hrj
          rw [hw] at h1
          cases h <;> simp at h1 <;> omega

/-- The kernel's orthonormalised rows are the orthonormalised rows. -/
theorem orth_apply (p : FVec Ideal S16x128 .f32) (hp : ∀ r l, IsR (mat p r l)) (r : Fin 16) (l : Fin 128) :
    orth p (ix2 r l) = Cert.Spec.orth (mat p) r l := by
  have key : ∀ (h : Bool) (q : Fin 8), whole h q = r → y p 16 h (ix2 q l) * Ideal.rsqrt (dd p 16 h (ix2 q l)) = Cert.Spec.orth (mat p) r l := by
    intro h q e
    rw [y_apply p 16 le_rfl, dd_apply p 16 le_rfl _ _ _ (whole h q).isLt, e]
    exact kernel_gs (Cert.Spec.rows_real hp) 16 r.val r.isLt.le l
  pointwise [orth]
  by_cases h : r.val < 8
  · rw [dif_pos h]; exact key false ⟨r.val, h⟩ (Fin.ext (by simp [whole]))
  · rw [dif_neg h]; exact key true ⟨r.val - 8, by omega⟩ (Fin.ext (by simp [whole]; omega))

end Cert.KernelIdeal.Model
-- ==== Proof.KVal.lean ====
module

public import proofs.«01_k».proof.Proof.KPoint

@[expose] public section

set_option maxRecDepth 16384

noncomputable section

namespace Cert.KernelIdeal.Model

open Idealize.ShloMosaic Idealize.ShloMosaic.TcCoe Idealize.SL.Sem
open Cert.KernelIdeal Cert.KernelIdeal.Gen Cert.Alg

/-- The entries of the sum of gradient and error as numbers. -/
abbrev mmat (m : FVec Ideal S128x7168 .bf16) (l : Fin 128) (x : Fin 7168) : EReal := m (ix2 l x)

/-- The entries of the second factor as numbers. -/
abbrev qmat (q : FVec Ideal S16x7168 .f32) (r : Fin 16) (x : Fin 7168) : EReal := q (ix2 r x)

/-- The second projection, at an index. -/
theorem p2_apply (m : FVec Ideal S128x7168 .bf16) (v : FVec Ideal S16x128 .f32) (r : Fin 16) (l : Fin 128) :
    p2 m v (ix2 r l) = Cert.Spec.p2 (mmat m) (mat (orth v)) r l := by
  pointwise [p2]
  rfl

/-- The scales of the first factor. -/
theorem ps_apply (v : FVec Ideal S16x128 .f32) (r : Fin 16) : ps v (ix2 r 0) = Cert.Spec.sc (mat v) r := by
  pointwise [ps, scale]
  rfl

/-- The codes of the first factor, before the cast to eight bits. -/
theorem pc_apply (v : FVec Ideal S16x128 .f32) (r : Fin 16) (l : Fin 128) : pc v (ix2 r l) = Cert.Spec.cd (mat v) r l := by
  pointwise [pc]
  rw [ps_apply, Cert.Spec.ofBits_127, Cert.Spec.ofBits_m127]
  rfl

/-- The second factor, at an index. -/
theorem qn_apply (m : FVec Ideal S128x7168 .bf16) (v : FVec Ideal S16x128 .f32) (r : Fin 16) (x : Fin 7168) :
    qn m v (ix2 r x) = Cert.Spec.qn (mmat m) (mat v) r x := by
  pointwise [qn]
  rw [ps_apply]
  exact congrArg (· * _) (Finset.sum_congr rfl fun l _ => by rw [pc_apply])

/-- The scales of the second factor. -/
theorem qns_apply (q : FVec Ideal S16x7168 .f32) (r : Fin 16) : qns q (ix2 r 0) = Cert.Spec.sc (qmat q) r := by
  pointwise [qns, scale]
  rfl

/-- The codes of the second factor, before the cast to eight bits. -/
theorem qnc_apply (q : FVec Ideal S16x7168 .f32) (r : Fin 16) (x : Fin 7168) : qnc q (ix2 r x) = Cert.Spec.cd (qmat q) r x := by
  pointwise [qnc]
  rw [qns_apply, Cert.Spec.ofBits_127, Cert.Spec.ofBits_m127]
  rfl

/-- The second factor, as rows of numbers. -/
theorem qmat_qn (m : FVec Ideal S128x7168 .bf16) (v : FVec Ideal S16x128 .f32) : qmat (qn m v) = Cert.Spec.qn (mmat m) (mat v) :=
  funext fun r => funext fun x => qn_apply m v r x

/-- The new error, at an index. -/
theorem er_apply (m : FVec Ideal S128x7168 .bf16) (v : FVec Ideal S16x128 .f32) (l : Fin 128) (x : Fin 7168) :
    er m v (qn m v) (ix2 l x) = Cert.Spec.er (mmat m) (mat v) l x := by
  pointwise [er]
  refine congrArg (m (ix2 l x) - ·) (Finset.sum_congr rfl fun r _ => ?_)
  rw [pc_apply, ps_apply, qnc_apply, qns_apply, qmat_qn]

/-- Writing column `b` of the scales, at an index. -/
theorem put_apply (b : Fin 18) (v : FVec Ideal S16x1 .f32) (q : FVec Ideal S16x18 .f32) (r : Fin 16) (x : Fin 18) :
    put (BitVec.ofNat 32 b.val) v q (ix2 r x) = if x.val = b.val then v (ix2 r 0) else q (ix2 r x) := by
  pointwise [put]
  rw [eq_word x b]
  by_cases h : x.val = b.val
  · rw [if_pos h, if_pos h]; rfl
  · rw [if_neg h, if_neg h]; rfl

/-- The first projection at grid point `b`, at an index. -/
theorem p1_apply (a : grid0.Coords) (b : Fin 18) (ha : (a 0).val = b.val) (m : FVec Ideal S128x7168 .bf16) (qs : FVec Ideal S16x18 .f32)
    (qc : IVec S1x16x7168 8) (r : Fin 16) (l : Fin 128) :
    k0_pay5 (F := Ideal) a m qs qc (ix2 r l)
      = Cert.Spec.p1 (mmat m) (fun r x => (((qc (ix3 0 r x)).toInt : ℝ) : EReal)) (fun r => qs (ix2 r b)) r l := by
  pointwise [k0_pay5]
  refine congrArg₂ (· * ·) rfl ?_
  rw [ha]
  refine (Finset.sum_congr rfl fun x _ => ?_).trans (Finset.sum_ite_eq' Finset.univ b fun x => qs (ix2 r x)) |>.trans (if_pos (Finset.mem_univ b))
  rw [eq_word x b]
  by_cases h : x = b
  · rw [if_pos h, if_pos (congrArg _ h)]; rfl
  · rw [if_neg h, if_neg fun e => h (Fin.ext e)]; rfl

/-- The sum of gradient and error, at an index. -/
theorem m_apply (g e : FVec Ideal S1x128x7168 .bf16) (l : Fin 128) (x : Fin 7168) :
    k0_pay4 (F := Ideal) g e (ix2 l x) = g (ix3 0 l x) + e (ix3 0 l x) := by
  pointwise [k0_pay4]

/-- The second projection, orthonormalised before and after, for real entries. -/
theorem po_apply (m : FVec Ideal S128x7168 .bf16) (v : FVec Ideal S16x128 .f32) (hm : ∀ l x, IsR (mmat m l x)) (hv : ∀ r l, IsR (mat v r l)) :
    mat (orth (p2 m v)) = Cert.Spec.orth (Cert.Spec.p2 (mmat m) (Cert.Spec.orth (mat v))) := by
  have e1 : mat (orth v) = Cert.Spec.orth (mat v) := funext fun r => funext fun l => orth_apply v hv r l
  have e2 : mat (p2 m v) = Cert.Spec.p2 (mmat m) (Cert.Spec.orth (mat v)) :=
    funext fun r => funext fun l => (p2_apply m v r l).trans (by rw [e1])
  funext r l
  refine (orth_apply (p2 m v) (fun r l => ?_) r l).trans (by rw [e2])
  rw [e2]
  exact Cert.Spec.p2_real hm (Cert.Spec.orth_real _) r l

end Cert.KernelIdeal.Model
-- ==== Proof.Final.lean ====
module

public import proofs.«01_k».proof.Proof.Spec
public import Idealize.ShloMosaic.Lib.Pointwise

@[expose] public section

set_option maxRecDepth 16384

noncomputable section

/-! The six results as functions of the four arguments, index by index. -/

namespace Cert.Final

open Idealize.ShloMosaic Cert.Alg

/-- Indices of a three-dimensional array. -/
abbrev I3 (a b c : ℕ) : Type := (⟨3, ![a, b, c]⟩ : Shape).Idx
/-- Indices of a matrix. -/
abbrev I2 (a b : ℕ) : Type := (⟨2, ![a, b]⟩ : Shape).Idx

variable (G E : I3 18 128 7168 → EReal) (QC : I3 18 7168 16 → BitVec 8) (QS : I2 18 16 → EReal)

/-- Member `b` of the sum of gradient and error. -/
def mm (b : Fin 18) (l : Fin 128) (x : Fin 7168) : EReal := G (ix3 b l x) + E (ix3 b l x)

/-- The codes of member `b` of the old factor as numbers, a column a row. -/
def qc (b : Fin 18) (r : Fin 16) (x : Fin 7168) : EReal := (((QC (ix3 b x r)).toInt : ℝ) : EReal)

/-- The scales of member `b` of the old factor. -/
def qs (b : Fin 18) (r : Fin 16) : EReal := QS (ix2 b r)

/-- The first projection of member `b`. -/
def p (b : Fin 18) : Fin 16 → Fin 128 → EReal := Cert.Spec.p1 (mm G E b) (qc QC b) (qs QS b)

/-- The orthonormal rows of member `b`. -/
def o (b : Fin 18) : Fin 16 → Fin 128 → EReal := Cert.Spec.po (mm G E b) (qc QC b) (qs QS b)

/-- The new second factor of member `b`. -/
def q (b : Fin 18) : Fin 16 → Fin 7168 → EReal := Cert.Spec.qn (mm G E b) (o G E QC QS b)

/-- Result 1: the new error. -/
def v0 : I3 18 128 7168 → EReal := fun i => Cert.Spec.er (mm G E (i 0)) (o G E QC QS (i 0)) (i 1) (i 2)
/-- Result 2: the first projection. -/
def v1 : I3 18 16 128 → EReal := fun i => p G E QC QS (i 0) (i 1) (i 2)
/-- Result 3: the codes of the orthonormal factor. -/
def v2 : I3 18 16 128 → BitVec 8 := fun i => Ideal.fptosi 8 (Cert.Spec.cd (o G E QC QS (i 0)) (i 1) (i 2))
/-- Result 4: the scales of the orthonormal factor. -/
def v3 : I2 16 18 → EReal := fun i => Cert.Spec.sc (o G E QC QS (i 1)) (i 0)
/-- Result 5: the codes of the second factor. -/
def v4 : I3 18 16 7168 → BitVec 8 := fun i => Ideal.fptosi 8 (Cert.Spec.cd (q G E QC QS (i 0)) (i 1) (i 2))
/-- Result 6: the scales of the second factor. -/
def v5 : I2 16 18 → EReal := fun i => Cert.Spec.sc (q G E QC QS (i 1)) (i 0)

/-- All entries of an array of numbers are real. -/
def AllR {ι : Type} (x : ι → EReal) : Prop := ∀ i, IsR (x i)

variable {G E QC QS}

/-- The sum of a real gradient and a real error is real. -/
theorem mm_real (hG : AllR G) (hE : AllR E) (b : Fin 18) (l : Fin 128) (x : Fin 7168) : IsR (mm G E b l x) := (hG _).add (hE _)

/-- The first projection of real arguments is real. -/
theorem p_real (hG : AllR G) (hE : AllR E) (hS : AllR QS) (b : Fin 18) (r : Fin 16) (l : Fin 128) : IsR (p G E QC QS b r l) :=
  Cert.Spec.p1_real (mm_real hG hE b) (fun _ _ => ⟨_, rfl⟩) (fun r => hS (ix2 b r)) r l

end Cert.Final
-- ==== Proof.KBlk.lean ====
module

public import proofs.«01_k».proof.Proof.KVal
public import proofs.«01_k».proof.Proof.Final
public import Idealize.ShloMosaic.Lib.Pipeline.ValueKit

@[expose] public section

set_option maxRecDepth 16384

noncomputable section

namespace Cert.KernelIdeal.Model

open Idealize.ShloMosaic Idealize.ShloMosaic.TcCoe Idealize.SL.Sem
open Cert.KernelIdeal Cert.KernelIdeal.Gen Cert.Alg

variable (m : (ℓ : Loc nD τ sig) → Buf (Elt Ideal) ℓ)

/-- The grid point's number is its coordinate. -/
theorem coords_val : ∀ t : Fin cfg0.N, (grid0.coords t 0).val = t.val :=
  (by decide +kernel : ∀ t : Fin grid0.N, (grid0.coords t 0).val = t.val)

/-- Where each input's block lies. -/
theorem idx_in : ∀ t : Fin cfg0.N, win0_0.index t = ![t.val, 0, 0] ∧ win0_1.index t = ![t.val, 0, 0] ∧ win0_2.index t = ![t.val, 0, 0] ∧ win0_3.index t = ![0, 0] :=
  (by decide +kernel : ∀ t : Fin grid0.N, win0_0.index t = ![t.val, 0, 0] ∧ win0_1.index t = ![t.val, 0, 0] ∧ win0_2.index t = ![t.val, 0, 0] ∧ win0_3.index t = ![0, 0])

/-- Where each output's block lies. -/
theorem idx_out : ∀ t : Fin cfg0.N, win0_4.index t = ![t.val, 0, 0] ∧ win0_5.index t = ![t.val, 0, 0] ∧ win0_6.index t = ![t.val, 0, 0] ∧ win0_7.index t = ![0, 0] ∧ win0_8.index t = ![t.val, 0, 0] ∧ win0_9.index t = ![0, 0] :=
  (by decide +kernel : ∀ t : Fin grid0.N, win0_4.index t = ![t.val, 0, 0] ∧ win0_5.index t = ![t.val, 0, 0] ∧ win0_6.index t = ![t.val, 0, 0] ∧ win0_7.index t = ![0, 0] ∧ win0_8.index t = ![t.val, 0, 0] ∧ win0_9.index t = ![0, 0])

/-- The member of the stack that grid point `t` works on. -/
abbrev bt (t : Fin cfg0.N) : Fin 18 := ⟨t.val, lt_of_lt_of_eq t.isLt (show cfg0.N = 18 from N_0)⟩

/-- The block of the gradient at grid point `t` is its member `t`. -/
theorem blk0 (c : Dev nD) (t : Fin cfg0.N) (l : Fin 128) (x : Fin 7168) :
    (iblk m c 0 t : FVec Ideal S1x128x7168 .bf16) (ix3 0 l x) = (m ((c : Thread nD τ).loc main_arg0) : FVec Ideal S18x128x7168 .bf16) (ix3 (bt t) l x) := by
  blk_point [iblk, V, idx_in t]

/-- The block of the error at grid point `t` is its member `t`. -/
theorem blk1 (c : Dev nD) (t : Fin cfg0.N) (l : Fin 128) (x : Fin 7168) :
    (iblk m c 1 t : FVec Ideal S1x128x7168 .bf16) (ix3 0 l x) = (m ((c : Thread nD τ).loc main_arg1) : FVec Ideal S18x128x7168 .bf16) (ix3 (bt t) l x) := by
  blk_point [iblk, V, idx_in t]

/-- The block of the codes at grid point `t` is member `t`, transposed. -/
theorem blk2 (c : Dev nD) (t : Fin cfg0.N) (r : Fin 16) (x : Fin 7168) :
    (iblk m c 2 t : IVec S1x16x7168 8) (ix3 0 r x) = (m ((c : Thread nD τ).loc main_arg2) : IVec S18x7168x16 8) (ix3 (bt t) x r) := by
  blk_point [iblk, V, idx_in t]

/-- The block of the scales is all scales, transposed. -/
theorem blk3 (c : Dev nD) (t : Fin cfg0.N) (r : Fin 16) (b : Fin 18) :
    (iblk m c 3 t : FVec Ideal S16x18 .f32) (ix2 r b) = (m ((c : Thread nD τ).loc main_arg3) : FVec Ideal S18x16 .f32) (ix2 b r) := by
  blk_point [iblk, V, idx_in t]

end Cert.KernelIdeal.Model
-- ==== Proof.KArr.lean ====
module

public import proofs.«01_k».proof.Proof.KBlk
public import proofs.«01_k».proof.Proof.Gen.KernelIdeal.Value

@[expose] public section

set_option maxRecDepth 16384

noncomputable section

namespace Cert.KernelIdeal.Model

open Idealize.ShloMosaic Idealize.ShloMosaic.TcCoe Idealize.SL.Sem
open Idealize.ShloMosaic.Pipeline (Dat)
open Cert.KernelIdeal Cert.KernelIdeal.Gen Cert.Alg

variable (m : (ℓ : Loc nD τ sig) → Buf (Elt Ideal) ℓ) (c : Dev nD)

/-- The gradient. -/
abbrev aG : Cert.Final.I3 18 128 7168 → EReal := (m ((c : Thread nD τ).loc main_arg0) : FVec Ideal S18x128x7168 .bf16)
/-- The error. -/
abbrev aE : Cert.Final.I3 18 128 7168 → EReal := (m ((c : Thread nD τ).loc main_arg1) : FVec Ideal S18x128x7168 .bf16)
/-- The codes of the old factor. -/
abbrev aC : Cert.Final.I3 18 7168 16 → BitVec 8 := (m ((c : Thread nD τ).loc main_arg2) : IVec S18x7168x16 8)
/-- The scales of the old factor. -/
abbrev aS : Cert.Final.I2 18 16 → EReal := (m ((c : Thread nD τ).loc main_arg3) : FVec Ideal S18x16 .f32)

/-- The sum that a grid point computes. -/
theorem t_M (t : Fin cfg0.N) : mmat (M m c t) = Cert.Final.mm (aG m c) (aE m c) (bt t) := by
  funext l x
  exact (m_apply _ _ l x).trans (congrArg₂ (· + ·) (blk0 m c t l x) (blk1 m c t l x))

/-- The first projection that a grid point computes. -/
theorem t_P (t : Fin cfg0.N) : mat (P1 m c t) = Cert.Final.p (aG m c) (aE m c) (aC m c) (aS m c) (bt t) := by
  funext r l
  refine (p1_apply (grid0.coords t) (bt t) (coords_val t) (M m c t) _ _ r l).trans ?_
  unfold Cert.Final.p
  rw [t_M]
  refine congrArg₂ (fun u v => Cert.Spec.p1 (Cert.Final.mm (aG m c) (aE m c) (bt t)) u v r l) ?_ ?_
  · funext r x
    exact congrArg (fun z : BitVec 8 => ((z.toInt : ℝ) : EReal)) (blk2 m c t r x)
  · funext r
    exact blk3 m c t r (bt t)

variable (hG : Cert.Final.AllR (aG m c)) (hE : Cert.Final.AllR (aE m c)) (hS : Cert.Final.AllR (aS m c))

include hG hE hS in
/-- The orthonormal rows that a grid point computes. -/
theorem t_O (t : Fin cfg0.N) : mat (PO m c t) = Cert.Final.o (aG m c) (aE m c) (aC m c) (aS m c) (bt t) := by
  refine (po_apply (M m c t) (P1 m c t) ?_ ?_).trans ?_
  · rw [t_M]; exact Cert.Final.mm_real hG hE (bt t)
  · rw [t_P]; exact Cert.Final.p_real hG hE hS (bt t)
  · rw [t_M, t_P]; rfl

include hG hE hS in
/-- The second factor that a grid point computes. -/
theorem t_Q (t : Fin cfg0.N) : qmat (Q m c t) = Cert.Final.q (aG m c) (aE m c) (aC m c) (aS m c) (bt t) := by
  refine (qmat_qn (M m c t) (PO m c t)).trans ?_
  rw [t_M, t_O m c hG hE hS]; rfl

/-- What a grid point leaves in the buffer of output 4. -/
theorem w4 (t : Fin cfg0.N) : (outsAt0 m c t.val t.isLt).1
    = shapeCast S1x128x7168 (er (M m c t) (PO m c t) (Q m c t)) shapeCasts_S128x7168_S1x128x7168 := by
  by_cases h : t.val % 18 = 0
  · exact out4_A m c t h
  · exact out4_B m c t h

/-- What a grid point leaves in the buffer of output 5. -/
theorem w5 (t : Fin cfg0.N) : (outsAt0 m c t.val t.isLt).2.1 = shapeCast S1x16x128 (P1 m c t) shapeCasts_S16x128_S1x16x128 := by
  by_cases h : t.val % 18 = 0
  · exact out5_A m c t h
  · exact out5_B m c t h

/-- What a grid point leaves in the buffer of output 6. -/
theorem w6 (t : Fin cfg0.N) : (outsAt0 m c t.val t.isLt).2.2.1 = shapeCast S1x16x128 (fptosi 8 (pc (PO m c t))) shapeCasts_S16x128_S1x16x128 := by
  by_cases h : t.val % 18 = 0
  · exact out6_A m c t h
  · exact out6_B m c t h

/-- What a grid point leaves in the buffer of output 8. -/
theorem w8 (t : Fin cfg0.N) : (outsAt0 m c t.val t.isLt).2.2.2.2.1 = shapeCast S1x16x7168 (fptosi 8 (qnc (Q m c t))) shapeCasts_S16x7168_S1x16x7168 := by
  by_cases h : t.val % 18 = 0
  · exact out8_A m c t h
  · exact out8_B m c t h

/-- A one-member stack at an index is its member. -/
theorem flat4 (z : FVec Ideal S128x7168 .bf16) (y : S1x128x7168.Idx) :
    shapeCast S1x128x7168 z shapeCasts_S128x7168_S1x128x7168 y = z (ix2 (y 1) (y 2)) := by
  pointwise

/-- Where output 4's block lies in its array. -/
theorem emb4 (t : Fin cfg0.N) (y : S1x128x7168.Idx) : (win0_4.blk t).view.emb y = (ix3 (bt t) (y 1) (y 2) : S18x128x7168.Idx) := by
  have h0 : (y 0).val = 0 := Nat.lt_one_iff.mp (y 0).isLt
  blk_ext! [idx_out t, h0]

include hG hE hS in
/-- The new error, from the kernel. -/
theorem arr4 : (dats m 0 c).arrAt 4 cfg0.N = (Cert.Final.v0 (aG m c) (aE m c) (aC m c) (aS m c) : FVec Ideal S18x128x7168 .bf16) := by
  refine (dats m 0 c).arrAt_eq_of_covers 4 _ (by decide +kernel) fun t hf y => ?_
  blk_simp
  rw [after0_4, w4]
  refine Eq.trans ?_ (congrArg (Cert.Final.v0 (aG m c) (aE m c) (aC m c) (aS m c)) (emb4 t y)).symm
  refine Eq.trans (b := er (M m c t) (PO m c t) (Q m c t) (ix2 (y 1) (y 2))) ?_ ?_
  · exact flat4 _ y
  · refine (er_apply (M m c t) (PO m c t) (y 1) (y 2)).trans ?_
    rw [t_M, t_O m c hG hE hS]
    rfl

/-- A one-member stack at an index is its member. -/
theorem flat5 (z : FVec Ideal S16x128 .f32) (y : S1x16x128.Idx) :
    shapeCast S1x16x128 z shapeCasts_S16x128_S1x16x128 y = z (ix2 (y 1) (y 2)) := by
  pointwise

/-- Where output 5's block lies in its array. -/
theorem emb5 (t : Fin cfg0.N) (y : S1x16x128.Idx) : (win0_5.blk t).view.emb y = (ix3 (bt t) (y 1) (y 2) : S18x16x128.Idx) := by
  have h0 : (y 0).val = 0 := Nat.lt_one_iff.mp (y 0).isLt
  blk_ext! [idx_out t, h0]

/-- The first projection, from the kernel. -/
theorem arr5 : (dats m 0 c).arrAt 5 cfg0.N = (Cert.Final.v1 (aG m c) (aE m c) (aC m c) (aS m c) : FVec Ideal S18x16x128 .f32) := by
  refine (dats m 0 c).arrAt_eq_of_covers 5 _ (by decide +kernel) fun t hf y => ?_
  blk_simp
  rw [after0_5, w5]
  refine Eq.trans ?_ (congrArg (Cert.Final.v1 (aG m c) (aE m c) (aC m c) (aS m c)) (emb5 t y)).symm
  refine Eq.trans (b := P1 m c t (ix2 (y 1) (y 2))) ?_ ?_
  · exact flat5 _ y
  · exact congrFun (congrFun (t_P m c t) (y 1)) (y 2)

/-- A one-member stack at an index is its member. -/
theorem flat6 (z : IVec S16x128 8) (y : S1x16x128.Idx) :
    shapeCast S1x16x128 z shapeCasts_S16x128_S1x16x128 y = z (ix2 (y 1) (y 2)) := by
  pointwise

/-- Where output 6's block lies in its array. -/
theorem emb6 (t : Fin cfg0.N) (y : S1x16x128.Idx) : (win0_6.blk t).view.emb y = (ix3 (bt t) (y 1) (y 2) : S18x16x128.Idx) := by
  have h0 : (y 0).val = 0 := Nat.lt_one_iff.mp (y 0).isLt
  blk_ext! [idx_out t, h0]

include hG hE hS in
/-- The codes of the first factor, from the kernel. -/
theorem arr6 : (dats m 0 c).arrAt 6 cfg0.N = (Cert.Final.v2 (aG m c) (aE m c) (aC m c) (aS m c) : IVec S18x16x128 8) := by
  refine (dats m 0 c).arrAt_eq_of_covers 6 _ (by decide +kernel) fun t hf y => ?_
  blk_simp
  rw [after0_6, w6]
  refine Eq.trans ?_ (congrArg (Cert.Final.v2 (aG m c) (aE m c) (aC m c) (aS m c)) (emb6 t y)).symm
  refine Eq.trans (b := (fptosi 8 (pc (PO m c t)) : IVec S16x128 8) (ix2 (y 1) (y 2))) ?_ ?_
  · exact flat6 _ y
  · refine (congrArg (Ideal.fptosi 8) (pc_apply (PO m c t) (y 1) (y 2))).trans ?_
    rw [t_O m c hG hE hS]
    rfl

/-- A one-member stack at an index is its member. -/
theorem flat8 (z : IVec S16x7168 8) (y : S1x16x7168.Idx) :
    shapeCast S1x16x7168 z shapeCasts_S16x7168_S1x16x7168 y = z (ix2 (y 1) (y 2)) := by
  pointwise

/-- Where output 8's block lies in its array. -/
theorem emb8 (t : Fin cfg0.N) (y : S1x16x7168.Idx) : (win0_8.blk t).view.emb y = (ix3 (bt t) (y 1) (y 2) : S18x16x7168.Idx) := by
  have h0 : (y 0).val = 0 := Nat.lt_one_iff.mp (y 0).isLt
  blk_ext! [idx_out t, h0]

include hG hE hS in
/-- The codes of the second factor, from the kernel. -/
theorem arr8 : (dats m 0 c).arrAt 8 cfg0.N = (Cert.Final.v4 (aG m c) (aE m c) (aC m c) (aS m c) : IVec S18x16x7168 8) := by
  refine (dats m 0 c).arrAt_eq_of_covers 8 _ (by decide +kernel) fun t hf y => ?_
  blk_simp
  rw [after0_8, w8]
  refine Eq.trans ?_ (congrArg (Cert.Final.v4 (aG m c) (aE m c) (aC m c) (aS m c)) (emb8 t y)).symm
  refine Eq.trans (b := (fptosi 8 (qnc (Q m c t)) : IVec S16x7168 8) (ix2 (y 1) (y 2))) ?_ ?_
  · exact flat8 _ y
  · refine (congrArg (Ideal.fptosi 8) (qnc_apply (Q m c t) (y 1) (y 2))).trans ?_
    rw [t_Q m c hG hE hS]
    rfl

include hG hE hS in
/-- The scales of the first factor after a grid point, for the members of the stack done so far. -/
theorem acc7 (n : ℕ) : ∀ (hn : n < cfg0.N) (r : Fin 16) (x : Fin 18), x.val ≤ n →
    (outsAt0 m c n hn).2.2.2.1 (ix2 r x) = Cert.Final.v3 (aG m c) (aE m c) (aC m c) (aS m c) (ix2 r x) := by
  have one : ∀ (t : Fin cfg0.N) (r : Fin 16) (x : Fin 18), x.val = (bt t).val → ps (PO m c t) (ix2 r 0) = Cert.Final.v3 (aG m c) (aE m c) (aC m c) (aS m c) (ix2 r x) := by
    intro t r x hx
    rw [ps_apply, t_O m c hG hE hS, ← Fin.ext hx]
    rfl
  induction n with
  | zero =>
    intro hn r x hx
    rw [out7_A m c ⟨0, hn⟩ rfl, coords_val, put_apply (bt ⟨0, hn⟩), if_pos (Nat.le_zero.mp hx)]
    exact one ⟨0, hn⟩ r x (Nat.le_zero.mp hx)
  | succ n ih =>
    intro hn r x hx
    have hN : n + 1 < 18 := lt_of_lt_of_eq hn (show cfg0.N = 18 from N_0)
    have h0 : ¬ (n + 1) % 18 = 0 := by omega
    rw [out7_B m c ⟨n + 1, hn⟩ h0, coords_val, put_apply (bt ⟨n + 1, hn⟩)]
    by_cases h : x.val = n + 1
    · rw [if_pos h]
      exact one ⟨n + 1, hn⟩ r x h
    · rw [if_neg h]
      exact ih (Nat.lt_of_succ_lt hn) r x (by omega)

/-- Output 7's block is its array. -/
theorem emb7 (t : Fin cfg0.N) (y : S16x18.Idx) : (win0_7.blk t).view.emb y = (ix2 (y 0) (y 1) : S16x18.Idx) := by
  blk_ext! [idx_out t]

include hG hE hS in
/-- The scales of the first factor, from the kernel. -/
theorem arr7 : (dats m 0 c).arrAt 7 cfg0.N = (Cert.Final.v3 (aG m c) (aE m c) (aC m c) (aS m c) : FVec Ideal S16x18 .f32) := by
  refine (dats m 0 c).arrAt_eq_of_covers 7 _ (by decide +kernel) fun t hf y => ?_
  have ht : t.val % 18 = 17 := (flush0_7 t).mp hf
  blk_simp
  rw [after0_7]
  refine Eq.trans ?_ (congrArg (Cert.Final.v3 (aG m c) (aE m c) (aC m c) (aS m c)) (emb7 t y)).symm
  obtain ⟨r, x, rfl⟩ : ∃ (r : Fin 16) (x : Fin 18), y = (ix2 r x : S16x18.Idx) := ⟨y 0, y 1, by pointwise⟩
  exact acc7 m c hG hE hS t.val t.isLt r x (by have := x.isLt; omega)

include hG hE hS in
/-- The scales of the second factor after a grid point, for the members of the stack done so far. -/
theorem acc9 (n : ℕ) : ∀ (hn : n < cfg0.N) (r : Fin 16) (x : Fin 18), x.val ≤ n →
    (outsAt0 m c n hn).2.2.2.2.2 (ix2 r x) = Cert.Final.v5 (aG m c) (aE m c) (aC m c) (aS m c) (ix2 r x) := by
  have one : ∀ (t : Fin cfg0.N) (r : Fin 16) (x : Fin 18), x.val = (bt t).val → qns (Q m c t) (ix2 r 0) = Cert.Final.v5 (aG m c) (aE m c) (aC m c) (aS m c) (ix2 r x) := by
    intro t r x hx
    rw [qns_apply, t_Q m c hG hE hS, ← Fin.ext hx]
    rfl
  induction n with
  | zero =>
    intro hn r x hx
    rw [out9_A m c ⟨0, hn⟩ rfl, coords_val, put_apply (bt ⟨0, hn⟩), if_pos (Nat.le_zero.mp hx)]
    exact one ⟨0, hn⟩ r x (Nat.le_zero.mp hx)
  | succ n ih =>
    intro hn r x hx
    have hN : n + 1 < 18 := lt_of_lt_of_eq hn (show cfg0.N = 18 from N_0)
    have h0 : ¬ (n + 1) % 18 = 0 := by omega
    rw [out9_B m c ⟨n + 1, hn⟩ h0, coords_val, put_apply (bt ⟨n + 1, hn⟩)]
    by_cases h : x.val = n + 1
    · rw [if_pos h]
      exact one ⟨n + 1, hn⟩ r x h
    · rw [if_neg h]
      exact ih (Nat.lt_of_succ_lt hn) r x (by omega)

/-- Output 9's block is its array. -/
theorem emb9 (t : Fin cfg0.N) (y : S16x18.Idx) : (win0_9.blk t).view.emb y = (ix2 (y 0) (y 1) : S16x18.Idx) := by
  blk_ext! [idx_out t]

include hG hE hS in
/-- The scales of the second factor, from the kernel. -/
theorem arr9 : (dats m 0 c).arrAt 9 cfg0.N = (Cert.Final.v5 (aG m c) (aE m c) (aC m c) (aS m c) : FVec Ideal S16x18 .f32) := by
  refine (dats m 0 c).arrAt_eq_of_covers 9 _ (by decide +kernel) fun t hf y => ?_
  have ht : t.val % 18 = 17 := (flush0_9 t).mp hf
  blk_simp
  rw [after0_9]
  refine Eq.trans ?_ (congrArg (Cert.Final.v5 (aG m c) (aE m c) (aC m c) (aS m c)) (emb9 t y)).symm
  obtain ⟨r, x, rfl⟩ : ∃ (r : Fin 16) (x : Fin 18), y = (ix2 r x : S16x18.Idx) := ⟨y 0, y 1, by pointwise⟩
  exact acc9 m c hG hE hS t.val t.isLt r x (by have := x.isLt; omega)

end Cert.KernelIdeal.Model
-- ==== Proof.RModel.lean ====
module

public import proofs.«01_k».proof.Proof.Gen.ReferenceIdeal.Value
public import Idealize.ShloMosaic.Lib.Pipeline.ValueKit

@[expose] public section

set_option maxRecDepth 16384

noncomputable section

namespace Cert.ReferenceIdeal.Model

open Idealize.ShloMosaic Idealize.ShloMosaic.TcCoe Idealize.SL.Sem
open Cert.ReferenceIdeal Cert.ReferenceIdeal.Gen

variable {F : FTy → Type} [FloatOps F]

/-- An entry of the diagonal of a stack of 16 by 16 matrices lies inside it. -/
theorem slices_diag (j : ℕ) : S18x16x16.Slices ![0, j % 16, j % 16] S18x1x1 :=
  (by decide : ∀ k : Fin 16, S18x16x16.Slices ![0, k.val, k.val] S18x1x1) ⟨j % 16, Nat.mod_lt _ (by decide)⟩

/-- A column of a stack of 16 by 16 matrices lies inside it. -/
theorem slices_col (j : ℕ) : S18x16x16.Slices ![0, 0, j % 16] S18x16x1 :=
  (by decide : ∀ k : Fin 16, S18x16x16.Slices ![0, 0, k.val] S18x16x1) ⟨j % 16, Nat.mod_lt _ (by decide)⟩

/-- A column of a stack of 128 by 16 matrices lies inside it. -/
theorem slices_vec (j : ℕ) : S18x128x16.Slices ![0, 0, j % 16] S18x128x1 :=
  (by decide : ∀ k : Fin 16, S18x128x16.Slices ![0, 0, k.val] S18x128x1) ⟨j % 16, Nat.mod_lt _ (by decide)⟩

/-- The reciprocal of the root of diagonal entry `j`. -/
def invOf (g : FVec F S18x16x16 .f32) (j : ℕ) : FVec F S18x1x1 .f32 :=
  divf (broadcast S18x1x1 (Scalar.ofBits .f32 0x3F800000#32)) (sqrt (extractStridedSlice S18x1x1 ![0, j % 16, j % 16] g (slices_diag j)))

/-- Column `j` of the triangular factor. -/
def colOf (g : FVec F S18x16x16 .f32) (j : ℕ) : FVec F S18x16x1 .f32 :=
  mulf (extractStridedSlice S18x16x1 ![0, 0, j % 16] g (slices_col j)) (broadcastTo S18x16x1 (invOf g j) broadcasts_S18x1x1_S18x16x1)

/-- The matrices of inner products of the columns of `p` after `j` steps. -/
def g (p : FVec F S18x128x16 .f32) (j : ℕ) : FVec F S18x16x16 .f32 :=
  Nat.rec (motive := fun _ => FVec F S18x16x16 .f32)
    (matmul dot_S18x128x16_S18x128x16_S18x16x16_1_1_2_2_0_0 (some .fp32) p p (constant S18x16x16 .f32 0x00000000#32))
    (fun j gj => subf gj (mulf (broadcastTo S18x16x16 (colOf gj j) broadcasts_S18x16x1_S18x16x16)
      (broadcastTo S18x16x16 (transpose S18x1x16 [0, 2, 1] (colOf gj j) transposes_S18x16x1_p0_2_1_S18x1x16) broadcasts_S18x1x16_S18x16x16)))
    j

/-- Column `j` of `p` scaled by the reciprocal of the root of the pivot of step `j`. -/
def xOf (p0 p : FVec F S18x128x16 .f32) (j : ℕ) : FVec F S18x128x1 .f32 :=
  mulf (extractStridedSlice S18x128x1 ![0, 0, j % 16] p (slices_vec j)) (broadcastTo S18x128x1 (invOf (g p0 j) j) broadcasts_S18x1x1_S18x128x1)

/-- The columns of `p0` after `j` steps. -/
def pp (p0 : FVec F S18x128x16 .f32) (j : ℕ) : FVec F S18x128x16 .f32 :=
  Nat.rec (motive := fun _ => FVec F S18x128x16 .f32) p0
    (fun j pj => subf pj (mulf (broadcastTo S18x128x16 (xOf p0 pj j) broadcasts_S18x128x1_S18x128x16)
      (broadcastTo S18x128x16 (transpose S18x1x16 [0, 2, 1] (colOf (g p0 j) j) transposes_S18x16x1_p0_2_1_S18x1x16) broadcasts_S18x1x16_S18x128x16)))
    j

/-- Orthonormal column `j`. -/
def x (p0 : FVec F S18x128x16 .f32) (j : ℕ) : FVec F S18x128x1 .f32 := xOf p0 (pp p0 j) j

/-- The orthonormalised columns of `p0`. -/
def orth (p0 : FVec F S18x128x16 .f32) : FVec F S18x128x16 .f32 :=
  concatenate S18x128x16 2 [⟨S18x128x1, x p0 0⟩, ⟨S18x128x1, x p0 1⟩, ⟨S18x128x1, x p0 2⟩, ⟨S18x128x1, x p0 3⟩, ⟨S18x128x1, x p0 4⟩, ⟨S18x128x1, x p0 5⟩, ⟨S18x128x1, x p0 6⟩, ⟨S18x128x1, x p0 7⟩, ⟨S18x128x1, x p0 8⟩, ⟨S18x128x1, x p0 9⟩, ⟨S18x128x1, x p0 10⟩, ⟨S18x128x1, x p0 11⟩, ⟨S18x128x1, x p0 12⟩, ⟨S18x128x1, x p0 13⟩, ⟨S18x128x1, x p0 14⟩, ⟨S18x128x1, x p0 15⟩]
    concatenates_S18x128x1_S18x128x1_S18x128x1_S18x128x1_S18x128x1_S18x128x1_S18x128x1_S18x128x1_S18x128x1_S18x128x1_S18x128x1_S18x128x1_S18x128x1_S18x128x1_S18x128x1_S18x128x1_S18x128x16_d2

/-- The second power iteration's projection. -/
def p2 (m : FVec F S18x128x7168 .bf16) (p1 : FVec F S18x128x16 .f32) : FVec F S18x128x16 .f32 :=
  matmul dot_S18x128x7168_S18x7168x16_S18x128x16_2_1_1_2_0_0 none m
    (truncf .bf16 (matmul dot_S18x128x7168_S18x128x16_S18x7168x16_1_1_2_2_0_0 none m (truncf .bf16 (orth p1) bitsLt_bf16_f32)
      (constant S18x7168x16 .f32 0x00000000#32)) bitsLt_bf16_f32) (constant S18x128x16 .f32 0x00000000#32)

/-- The scale of an absolute maximum: its 127th part, one when it is zero. -/
def scale (a : FVec F S18x16 .f32) : FVec F S18x16 .f32 :=
  select (cmpf .oeq a (broadcast S18x16 (Scalar.ofBits .f32 0x00000000#32))) (broadcast S18x16 (Scalar.ofBits .f32 0x3F800000#32))
    (divf a (broadcast S18x16 (Scalar.ofBits .f32 0x42FE0000#32)))

/-- The scales of the columns of the 128 by 16 matrices. -/
def ps (po : FVec F S18x128x16 .f32) : FVec F S18x16 .f32 :=
  scale (multiReduction .maximumf [1] S18x16 (absf po) 0xFF800000#32 reduces_S18x128x16_S18x16 (.inl rfl) rfl)

/-- The codes of the columns of the 128 by 16 matrices. -/
def pc (po : FVec F S18x128x16 .f32) : IVec S18x128x16 8 :=
  fptosi 8 (minimumf (broadcast S18x128x16 (Scalar.sitofp .f32 127#32)) (maximumf (broadcast S18x128x16 (Scalar.sitofp .f32 4294967169#32))
    (roundeven (divf po (broadcastTo S18x128x16 (shapeCast S18x1x16 (ps po) shapeCasts_S18x16_S18x1x16) broadcasts_S18x1x16_S18x128x16)))))

/-- The second factor: the codes of `po` with their scales times `m`. -/
def qn (m : FVec F S18x128x7168 .bf16) (po : FVec F S18x128x16 .f32) : FVec F S18x7168x16 .f32 :=
  mulf (matmul dot_S18x128x7168_S18x128x16_S18x7168x16_1_1_2_2_0_0 none m (sitofp .bf16 (pc po)) (constant S18x7168x16 .f32 0x00000000#32))
    (broadcastTo S18x7168x16 (shapeCast S18x1x16 (ps po) shapeCasts_S18x16_S18x1x16) broadcasts_S18x1x16_S18x7168x16)

/-- The scales of the columns of the 7168 by 16 matrices. -/
def qns (q : FVec F S18x7168x16 .f32) : FVec F S18x16 .f32 :=
  scale (multiReduction .maximumf [1] S18x16 (absf q) 0xFF800000#32 reduces_S18x7168x16_S18x16 (.inl rfl) rfl)

/-- The codes of the columns of the 7168 by 16 matrices. -/
def qnc (q : FVec F S18x7168x16 .f32) : IVec S18x7168x16 8 :=
  fptosi 8 (minimumf (broadcast S18x7168x16 (Scalar.sitofp .f32 127#32)) (maximumf (broadcast S18x7168x16 (Scalar.sitofp .f32 4294967169#32))
    (roundeven (divf q (broadcastTo S18x7168x16 (shapeCast S18x1x16 (qns q) shapeCasts_S18x16_S18x1x16) broadcasts_S18x1x16_S18x7168x16)))))

/-- What the two quantised factors leave of `m`. -/
def er (m : FVec F S18x128x7168 .bf16) (po : FVec F S18x128x16 .f32) (q : FVec F S18x7168x16 .f32) : FVec F S18x128x7168 .bf16 :=
  truncf .bf16 (subf (extf .f32 m bitsLt_bf16_f32) (matmul dot_S18x128x16_S18x7168x16_S18x128x7168_2_2_1_1_0_0 none
    (mulf (sitofp .bf16 (pc po)) (broadcastTo S18x128x16 (shapeCast S18x1x16 (truncf .bf16 (ps po) bitsLt_bf16_f32) shapeCasts_S18x16_S18x1x16) broadcasts_S18x1x16_S18x128x16))
    (mulf (sitofp .bf16 (qnc q)) (broadcastTo S18x7168x16 (shapeCast S18x1x16 (truncf .bf16 (qns q) bitsLt_bf16_f32) shapeCasts_S18x16_S18x1x16) broadcasts_S18x1x16_S18x7168x16))
    (constant S18x128x7168 .f32 0x00000000#32))) bitsLt_bf16_f32

/-- The sum of the gradient and the error. -/
def M (b0 b1 : Vec F S18x128x7168 .bf16) : FVec F S18x128x7168 .bf16 := k0_pay4 b0 b1

/-- The first projection. -/
def P1 (b0 b1 : Vec F S18x128x7168 .bf16) (b2 : Vec F S18x7168x16 .i8) (b3 : Vec F S18x16 .f32) : FVec F S18x128x16 .f32 := k0_pay5 b2 b3 (M b0 b1)

/-- The second projection, orthonormalised. -/
def PO (b0 b1 : Vec F S18x128x7168 .bf16) (b2 : Vec F S18x7168x16 .i8) (b3 : Vec F S18x16 .f32) : FVec F S18x128x16 .f32 := orth (p2 (M b0 b1) (P1 b0 b1 b2 b3))

/-- The second factor. -/
def Q (b0 b1 : Vec F S18x128x7168 .bf16) (b2 : Vec F S18x7168x16 .i8) (b3 : Vec F S18x16 .f32) : FVec F S18x7168x16 .f32 := qn (M b0 b1) (PO b0 b1 b2 b3)

variable (m : (ℓ : Loc nD τ sig) → Buf (Elt F) ℓ)

/-- Block 0 as the body reads it. -/
def rd0 (c : Dev nD) (t : Fin cfg0.N) : Vec F S18x128x7168 .bf16 :=
  View.read (Elt F) (View.whole cc0_stg0_0) ((hs0_0 t).unread (iblk m c 0 t))

/-- Reading back block 0 as it was laid down. -/
theorem rd0_eq (c : Dev nD) (t : Fin cfg0.N) : rd0 m c t = iblk m c 0 t :=
  (hs0_0 t).read_unread _

/-- Block 1 as the body reads it. -/
def rd1 (c : Dev nD) (t : Fin cfg0.N) : Vec F S18x128x7168 .bf16 :=
  View.read (Elt F) (View.whole cc0_stg1_0) ((hs0_1 t).unread (iblk m c 1 t))

/-- Reading back block 1 as it was laid down. -/
theorem rd1_eq (c : Dev nD) (t : Fin cfg0.N) : rd1 m c t = iblk m c 1 t :=
  (hs0_1 t).read_unread _

/-- Block 2 as the body reads it. -/
def rd2 (c : Dev nD) (t : Fin cfg0.N) : Vec F S18x7168x16 .i8 :=
  View.read (Elt F) (View.whole cc0_stg2_0) ((hs0_2 t).unread (iblk m c 2 t))

/-- Reading back block 2 as it was laid down. -/
theorem rd2_eq (c : Dev nD) (t : Fin cfg0.N) : rd2 m c t = iblk m c 2 t :=
  (hs0_2 t).read_unread _

/-- Block 3 as the body reads it. -/
def rd3 (c : Dev nD) (t : Fin cfg0.N) : Vec F S18x16 .f32 :=
  View.read (Elt F) (View.whole cc0_stg3_0) ((hs0_3 t).unread (iblk m c 3 t))

/-- Reading back block 3 as it was laid down. -/
theorem rd3_eq (c : Dev nD) (t : Fin cfg0.N) : rd3 m c t = iblk m c 3 t :=
  (hs0_3 t).read_unread _

/-- What the body leaves in the block of the error. -/
theorem out4 (c : Dev nD) (t : Fin cfg0.N) :
    ((outsAt0 m c t).1 : Vec F S18x128x7168 .bf16) = er (M (iblk m c 0 t) (iblk m c 1 t)) (PO (iblk m c 0 t) (iblk m c 1 t) (iblk m c 2 t) (iblk m c 3 t)) (Q (iblk m c 0 t) (iblk m c 1 t) (iblk m c 2 t) (iblk m c 3 t)) := by
  refine Eq.trans (b := er (M (rd0 m c t) (rd1 m c t)) (PO (rd0 m c t) (rd1 m c t) (rd2 m c t) (rd3 m c t)) (Q (rd0 m c t) (rd1 m c t) (rd2 m c t) (rd3 m c t))) ?_ (by rw [rd0_eq, rd1_eq, rd2_eq, rd3_eq])
  unfold outsAt0
  frame_out
  sl_kernel_rfl

/-- What the body leaves in the block of the first projection. -/
theorem out5 (c : Dev nD) (t : Fin cfg0.N) :
    ((outsAt0 m c t).2.1 : Vec F S18x16x128 .f32) = transpose S18x16x128 [0, 2, 1] (P1 (iblk m c 0 t) (iblk m c 1 t) (iblk m c 2 t) (iblk m c 3 t)) transposes_S18x128x16_p0_2_1_S18x16x128 := by
  refine Eq.trans (b := transpose S18x16x128 [0, 2, 1] (P1 (rd0 m c t) (rd1 m c t) (rd2 m c t) (rd3 m c t)) transposes_S18x128x16_p0_2_1_S18x16x128) ?_ (by rw [rd0_eq, rd1_eq, rd2_eq, rd3_eq])
  unfold outsAt0
  frame_out
  sl_kernel_rfl

/-- What the body leaves in the block of the first codes. -/
theorem out6 (c : Dev nD) (t : Fin cfg0.N) :
    ((outsAt0 m c t).2.2.1 : Vec F S18x16x128 .i8) = transpose S18x16x128 [0, 2, 1] (pc (PO (iblk m c 0 t) (iblk m c 1 t) (iblk m c 2 t) (iblk m c 3 t))) transposes_S18x128x16_p0_2_1_S18x16x128 := by
  refine Eq.trans (b := transpose S18x16x128 [0, 2, 1] (pc (PO (rd0 m c t) (rd1 m c t) (rd2 m c t) (rd3 m c t))) transposes_S18x128x16_p0_2_1_S18x16x128) ?_ (by rw [rd0_eq, rd1_eq, rd2_eq, rd3_eq])
  unfold outsAt0
  frame_out
  sl_kernel_rfl

/-- What the body leaves in the block of the first scales. -/
theorem out7 (c : Dev nD) (t : Fin cfg0.N) :
    ((outsAt0 m c t).2.2.2.1 : Vec F S16x18 .f32) = transpose S16x18 [1, 0] (ps (PO (iblk m c 0 t) (iblk m c 1 t) (iblk m c 2 t) (iblk m c 3 t))) transposes_S18x16_p1_0_S16x18 := by
  refine Eq.trans (b := transpose S16x18 [1, 0] (ps (PO (rd0 m c t) (rd1 m c t) (rd2 m c t) (rd3 m c t))) transposes_S18x16_p1_0_S16x18) ?_ (by rw [rd0_eq, rd1_eq, rd2_eq, rd3_eq])
  unfold outsAt0
  frame_out
  sl_kernel_rfl

/-- What the body leaves in the block of the second codes. -/
theorem out8 (c : Dev nD) (t : Fin cfg0.N) :
    ((outsAt0 m c t).2.2.2.2.1 : Vec F S18x16x7168 .i8) = transpose S18x16x7168 [0, 2, 1] (qnc (Q (iblk m c 0 t) (iblk m c 1 t) (iblk m c 2 t) (iblk m c 3 t))) transposes_S18x7168x16_p0_2_1_S18x16x7168 := by
  refine Eq.trans (b := transpose S18x16x7168 [0, 2, 1] (qnc (Q (rd0 m c t) (rd1 m c t) (rd2 m c t) (rd3 m c t))) transposes_S18x7168x16_p0_2_1_S18x16x7168) ?_ (by rw [rd0_eq, rd1_eq, rd2_eq, rd3_eq])
  unfold outsAt0
  frame_out
  sl_kernel_rfl

/-- What the body leaves in the block of the second scales. -/
theorem out9 (c : Dev nD) (t : Fin cfg0.N) :
    ((outsAt0 m c t).2.2.2.2.2 : Vec F S16x18 .f32) = transpose S16x18 [1, 0] (qns (Q (iblk m c 0 t) (iblk m c 1 t) (iblk m c 2 t) (iblk m c 3 t))) transposes_S18x16_p1_0_S16x18 := by
  refine Eq.trans (b := transpose S16x18 [1, 0] (qns (Q (rd0 m c t) (rd1 m c t) (rd2 m c t) (rd3 m c t))) transposes_S18x16_p1_0_S16x18) ?_ (by rw [rd0_eq, rd1_eq, rd2_eq, rd3_eq])
  unfold outsAt0
  frame_out
  sl_kernel_rfl

end Cert.ReferenceIdeal.Model
-- ==== Proof.RPoint.lean ====
module

public import proofs.«01_k».proof.Proof.RModel
public import proofs.«01_k».proof.Proof.Spec
public import Idealize.ShloMosaic.Lib.Pointwise

@[expose] public section

set_option maxRecDepth 16384

noncomputable section

namespace Cert.ReferenceIdeal.Model

open Idealize.ShloMosaic Idealize.ShloMosaic.TcCoe Idealize.SL.Sem
open Cert.ReferenceIdeal Cert.ReferenceIdeal.Gen Cert.Alg

/-- The columns of member `b` of a stack, as rows of numbers. -/
abbrev mat (p : FVec Ideal S18x128x16 .f32) (b : Fin 18) (r : Fin 16) (l : Fin 128) : EReal := p (ix3 b l r)

/-- The columns of member `b` by natural numbers. -/
abbrev Rw (p : FVec Ideal S18x128x16 .f32) (b : Fin 18) : ℕ → Fin 128 → EReal := Cert.Spec.rows (mat p b)

/-- Number `j` as a column. -/
abbrev ci (j : ℕ) : Fin 16 := ⟨j % 16, Nat.mod_lt _ (by decide)⟩

/-- The reciprocal of the diagonal entry of column `j`. -/
theorem invOf_apply (v : FVec Ideal S18x16x16 .f32) (j : ℕ) (b : Fin 18) :
    invOf v j (ix3 b 0 0) = Ideal.div 1 (Ideal.sqrt (v (ix3 b (ci j) (ci j)))) := by
  pointwise [invOf]

/-- Column `j` of the triangular factor, at an index. -/
theorem colOf_apply (v : FVec Ideal S18x16x16 .f32) (j : ℕ) (b : Fin 18) (i : Fin 16) :
    colOf v j (ix3 b i 0) = v (ix3 b i (ci j)) * Ideal.div 1 (Ideal.sqrt (v (ix3 b (ci j) (ci j)))) := by
  pointwise [colOf, invOf_apply]

/-- One step of the factorisation. -/
theorem g_succ (p : FVec Ideal S18x128x16 .f32) (j : ℕ) :
    g p (j + 1) = subf (g p j) (mulf (broadcastTo S18x16x16 (colOf (g p j) j) broadcasts_S18x16x1_S18x16x16)
      (broadcastTo S18x16x16 (transpose S18x1x16 [0, 2, 1] (colOf (g p j) j) transposes_S18x16x1_p0_2_1_S18x1x16) broadcasts_S18x1x16_S18x16x16)) := rfl

/-- The matrix after `j` steps of the factorisation, at an index. -/
theorem g_apply (p : FVec Ideal S18x128x16 .f32) (b : Fin 18) (j : ℕ) (hj : j ≤ 16) : ∀ i k : Fin 16,
    g p j (ix3 b i k) = gR (Rw p b) j i.val k.val := by
  induction j with
  | zero =>
    intro i k
    show (matmul dot_S18x128x16_S18x128x16_S18x16x16_1_1_2_2_0_0 (some .fp32) p p (constant S18x16x16 .f32 0x00000000#32) : FVec Ideal S18x16x16 .f32) (ix3 b i k) = _
    pointwise
    exact Finset.sum_congr rfl fun l _ => congrArg₂ (· * ·) (Cert.Spec.rows_fin (mat p b) i l).symm (Cert.Spec.rows_fin (mat p b) k l).symm
  | succ j ih =>
    intro i k
    have hc : (ci j).val = j := Nat.mod_eq_of_lt (by omega)
    rw [g_succ]
    pointwise [colOf_apply]
    rw [ih (by omega), ih (by omega), ih (by omega), ih (by omega), hc, gR]

/-- Column `j` of the solution, at an index. -/
theorem xOf_apply (p0 p : FVec Ideal S18x128x16 .f32) (j : ℕ) (b : Fin 18) (l : Fin 128) :
    xOf p0 p j (ix3 b l 0) = p (ix3 b l (ci j)) * Ideal.div 1 (Ideal.sqrt (g p0 j (ix3 b (ci j) (ci j)))) := by
  pointwise [xOf, invOf_apply]

/-- One step of the triangular solve. -/
theorem pp_succ (p0 : FVec Ideal S18x128x16 .f32) (j : ℕ) :
    pp p0 (j + 1) = subf (pp p0 j) (mulf (broadcastTo S18x128x16 (xOf p0 (pp p0 j) j) broadcasts_S18x128x1_S18x128x16)
      (broadcastTo S18x128x16 (transpose S18x1x16 [0, 2, 1] (colOf (g p0 j) j) transposes_S18x16x1_p0_2_1_S18x1x16) broadcasts_S18x1x16_S18x128x16)) := rfl

/-- The columns after `j` steps of the triangular solve, at an index. -/
theorem pp_apply (p0 : FVec Ideal S18x128x16 .f32) (b : Fin 18) (j : ℕ) (hj : j ≤ 16) : ∀ (l : Fin 128) (k : Fin 16),
    pp p0 j (ix3 b l k) = pR (Rw p0 b) j k.val l := by
  induction j with
  | zero => intro l k; exact (Cert.Spec.rows_fin (mat p0 b) k l).symm
  | succ j ih =>
    intro l k
    have hc : (ci j).val = j := Nat.mod_eq_of_lt (by omega)
    rw [pp_succ]
    pointwise [colOf_apply, xOf_apply]
    rw [ih (by omega), ih (by omega), g_apply p0 b j (by omega), g_apply p0 b j (by omega), hc, pR]

end Cert.ReferenceIdeal.Model
-- ==== Proof.ROrth.lean ====
module

public import proofs.«01_k».proof.Proof.RPoint
public import proofs.«01_k».proof.Proof.Spec
public import Idealize.ShloMosaic.Lib.Pointwise

@[expose] public section

set_option maxRecDepth 16384

noncomputable section

namespace Cert.ReferenceIdeal.Model

open Idealize.ShloMosaic Idealize.ShloMosaic.TcCoe Idealize.SL.Sem
open Cert.ReferenceIdeal Cert.ReferenceIdeal.Gen Cert.Alg

/-- An orthonormal column. -/
theorem x_apply (p : FVec Ideal S18x128x16 .f32) (b : Fin 18) (hp : ∀ r l, IsR (mat p b r l)) (j : ℕ) (hj : j < 16) (l : Fin 128) (r : Fin 16)
    (hr : r.val = j) : x p j (ix3 b l 0) = Cert.Spec.orth (mat p b) r l := by
  have hc : (ci j).val = j := Nat.mod_eq_of_lt hj
  rw [x, xOf_apply, pp_apply p b j hj.le, g_apply p b j hj.le, hc, ← hr]
  exact reference_gs (Cert.Spec.rows_real hp) r.val l

set_option maxHeartbeats 1600000 in
/-- The reference's orthonormalised columns are the orthonormalised rows. -/
theorem orth_apply (p : FVec Ideal S18x128x16 .f32) (b : Fin 18) (hp : ∀ r l, IsR (mat p b r l)) (r : Fin 16) (l : Fin 128) :
    orth p (ix3 b l r) = Cert.Spec.orth (mat p b) r l := by
  refine (concatenate_ofFn_unit_apply' 2 (fun n : Fin 16 => x p n.val)
    concatenates_S18x128x1_S18x128x1_S18x128x1_S18x128x1_S18x128x1_S18x128x1_S18x128x1_S18x128x1_S18x128x1_S18x128x1_S18x128x1_S18x128x1_S18x128x1_S18x128x1_S18x128x1_S18x128x1_S18x128x16_d2
    rfl (ix3 b l r)).trans ?_
  pointwise
  exact x_apply p b hp r.val r.isLt l r rfl

end Cert.ReferenceIdeal.Model
-- ==== Proof.RVal.lean ====
module

public import proofs.«01_k».proof.Proof.ROrth
public import proofs.«01_k».proof.Proof.Spec
public import Idealize.ShloMosaic.Lib.Pointwise

@[expose] public section

set_option maxRecDepth 16384

noncomputable section

namespace Cert.ReferenceIdeal.Model

open Idealize.ShloMosaic Idealize.ShloMosaic.TcCoe Idealize.SL.Sem
open Cert.ReferenceIdeal Cert.ReferenceIdeal.Gen Cert.Alg

/-- The entries of the sum of gradient and error as numbers. -/
abbrev mmat (m : FVec Ideal S18x128x7168 .bf16) (b : Fin 18) (l : Fin 128) (x : Fin 7168) : EReal := m (ix3 b l x)

/-- The columns of member `b` of the second factor, as rows of numbers. -/
abbrev qmat (q : FVec Ideal S18x7168x16 .f32) (b : Fin 18) (r : Fin 16) (x : Fin 7168) : EReal := q (ix3 b x r)

/-- The second projection, at an index. -/
theorem p2_apply (m : FVec Ideal S18x128x7168 .bf16) (v : FVec Ideal S18x128x16 .f32) (b : Fin 18) (r : Fin 16) (l : Fin 128) :
    p2 m v (ix3 b l r) = Cert.Spec.p2 (mmat m b) (mat (orth v) b) r l := by
  pointwise [p2]
  refine Finset.sum_congr rfl fun x _ => ?_
  rw [mul_comm]
  exact congrArg (· * _) (Finset.sum_congr rfl fun k _ => mul_comm _ _)

/-- The scales of the first factor. -/
theorem ps_apply (v : FVec Ideal S18x128x16 .f32) (b : Fin 18) (r : Fin 16) : ps v (ix2 b r) = Cert.Spec.sc (mat v b) r := by
  pointwise [ps, scale]
  rfl

/-- A scale, from the largest magnitude. -/
theorem scale_apply (a : FVec Ideal S18x16 .f32) (b : Fin 18) (r : Fin 16) :
    scale a (ix2 b r) = if a (ix2 b r) = 0 then 1 else Ideal.div (a (ix2 b r)) (Ideal.ofBits .f32 0x42FE0000#32) := by
  pointwise [scale]

/-- The absolute maximum of a column of the second factor. -/
theorem amax_apply (q : FVec Ideal S18x7168x16 .f32) (b : Fin 18) (r : Fin 16) :
    (multiReduction .maximumf [1] S18x16 (absf q) 0xFF800000#32 reduces_S18x7168x16_S18x16 (.inl rfl) rfl : FVec Ideal S18x16 .f32) (ix2 b r)
      = Finset.univ.fold max (Ideal.ofBits .f32 0xFF800000#32) fun x : Fin 7168 => FloatOps.absf (F := Ideal) (φ := .f32) (qmat q b r x) := by
  generalize hz : (Finset.univ.fold max (Ideal.ofBits .f32 0xFF800000#32) fun x : Fin 7168 => FloatOps.absf (F := Ideal) (φ := .f32) (qmat q b r x)) = z
  pointwise
  exact hz

/-- The scales of the second factor. -/
theorem qns_apply (q : FVec Ideal S18x7168x16 .f32) (b : Fin 18) (r : Fin 16) : qns q (ix2 b r) = Cert.Spec.sc (qmat q b) r := by
  unfold qns
  rw [scale_apply, amax_apply]
  unfold Cert.Spec.sc
  with_reducible rfl

/-- The word of 127 as a number. -/
theorem sitofp_127 : (Scalar.sitofp .f32 127#32 : Ideal .f32) = ((127 : ℝ) : EReal) := by
  show (((127#32).toInt : ℝ) : EReal) = _
  rw [show (127#32).toInt = 127 from by decide]; norm_num

/-- The word of -127 as a number. -/
theorem sitofp_m127 : (Scalar.sitofp .f32 4294967169#32 : Ideal .f32) = ((-127 : ℝ) : EReal) := by
  show (((4294967169#32).toInt : ℝ) : EReal) = _
  rw [show (4294967169#32).toInt = -127 from by decide]; norm_num

/-- Numbers clipped at 127 and made whole numbers of eight bits, at an index. -/
theorem clip_apply {s : Shape} (v : FVec Ideal s .f32) (i : s.Idx) :
    fptosi 8 (minimumf (broadcast s (Scalar.sitofp .f32 127#32)) (maximumf (broadcast s (Scalar.sitofp .f32 4294967169#32)) v)) i
      = Ideal.fptosi 8 (min ((127 : ℝ) : EReal) (max ((-127 : ℝ) : EReal) (v i))) := by
  rw [← sitofp_127, ← sitofp_m127]
  rfl

/-- The quotients by given scales, rounded, for the first factor. -/
theorem pr_apply (v : FVec Ideal S18x128x16 .f32) (w : FVec Ideal S18x16 .f32) (b : Fin 18) (r : Fin 16) (l : Fin 128) :
    (roundeven (divf v (broadcastTo S18x128x16 (shapeCast S18x1x16 w shapeCasts_S18x16_S18x1x16) broadcasts_S18x1x16_S18x128x16)) : FVec Ideal S18x128x16 .f32) (ix3 b l r)
      = Ideal.liftRound Ideal.roundHalfEven (Ideal.div (v (ix3 b l r)) (w (ix2 b r))) := by
  pointwise

/-- The codes of the first factor. -/
theorem pc_apply (v : FVec Ideal S18x128x16 .f32) (b : Fin 18) (r : Fin 16) (l : Fin 128) :
    pc v (ix3 b l r) = Ideal.fptosi 8 (Cert.Spec.cd (mat v b) r l) := by
  unfold pc Cert.Spec.cd
  refine (clip_apply _ _).trans (congrArg (fun z => Ideal.fptosi 8 (min ((127 : ℝ) : EReal) (max ((-127 : ℝ) : EReal) z))) ?_)
  exact (pr_apply v (ps v) b r l).trans (congrArg (fun z => Ideal.liftRound Ideal.roundHalfEven (Ideal.div (v (ix3 b l r)) z)) (ps_apply v b r))

/-- The quotients by given scales, rounded, for the second factor. -/
theorem qnr_apply (q : FVec Ideal S18x7168x16 .f32) (w : FVec Ideal S18x16 .f32) (b : Fin 18) (r : Fin 16) (x : Fin 7168) :
    (roundeven (divf q (broadcastTo S18x7168x16 (shapeCast S18x1x16 w shapeCasts_S18x16_S18x1x16) broadcasts_S18x1x16_S18x7168x16)) : FVec Ideal S18x7168x16 .f32) (ix3 b x r)
      = Ideal.liftRound Ideal.roundHalfEven (Ideal.div (q (ix3 b x r)) (w (ix2 b r))) := by
  pointwise

/-- The codes of the second factor. -/
theorem qnc_apply (q : FVec Ideal S18x7168x16 .f32) (b : Fin 18) (r : Fin 16) (x : Fin 7168) :
    qnc q (ix3 b x r) = Ideal.fptosi 8 (Cert.Spec.cd (qmat q b) r x) := by
  unfold qnc Cert.Spec.cd
  refine (clip_apply _ _).trans (congrArg (fun z => Ideal.fptosi 8 (min ((127 : ℝ) : EReal) (max ((-127 : ℝ) : EReal) z))) ?_)
  exact (qnr_apply q (qns q) b r x).trans (congrArg (fun z => Ideal.liftRound Ideal.roundHalfEven (Ideal.div (q (ix3 b x r)) z)) (qns_apply q b r))

/-- A code of eight bits read back is the code. -/
theorem read_code {n : ℕ} (v : Fin 16 → Fin n → EReal) (r : Fin 16) (x : Fin n) :
    (FloatOps.sitofp .bf16 (Ideal.fptosi 8 (Cert.Spec.cd v r x)) : Ideal .bf16) = Cert.Spec.cd v r x :=
  code_roundtrip _

/-- The second factor, at an index. -/
theorem qn_apply (m : FVec Ideal S18x128x7168 .bf16) (v : FVec Ideal S18x128x16 .f32) (b : Fin 18) (r : Fin 16) (x : Fin 7168) :
    qn m v (ix3 b x r) = Cert.Spec.qn (mmat m b) (mat v b) r x := by
  pointwise [qn]
  rw [ps_apply]
  refine congrArg (· * _) (Finset.sum_congr rfl fun l _ => ?_)
  rw [pc_apply, read_code, mul_comm]

/-- The second factor, as rows of numbers. -/
theorem qmat_qn (m : FVec Ideal S18x128x7168 .bf16) (v : FVec Ideal S18x128x16 .f32) (b : Fin 18) :
    qmat (qn m v) b = Cert.Spec.qn (mmat m b) (mat v b) :=
  funext fun r => funext fun x => qn_apply m v b r x

/-- What the factors of codes and scales leave of `m`, at an index. -/
theorem sub_apply (m : FVec Ideal S18x128x7168 .bf16) (u : FVec Ideal S18x128x16 .bf16) (w : FVec Ideal S18x7168x16 .bf16) (b : Fin 18) (l : Fin 128) (x : Fin 7168) :
    (truncf .bf16 (subf (extf .f32 m bitsLt_bf16_f32) (matmul dot_S18x128x16_S18x7168x16_S18x128x7168_2_2_1_1_0_0 none u w (constant S18x128x7168 .f32 0x00000000#32))) bitsLt_bf16_f32 : FVec Ideal S18x128x7168 .bf16) (ix3 b l x)
      = m (ix3 b l x) - ∑ r : Fin 16, u (ix3 b l r) * w (ix3 b x r) := by
  pointwise

/-- Codes times scales, at an index. -/
theorem deq_apply (k : IVec S18x7168x16 8) (w : FVec Ideal S18x16 .f32) (b : Fin 18) (r : Fin 16) (x : Fin 7168) :
    (mulf (sitofp .bf16 k) (broadcastTo S18x7168x16 (shapeCast S18x1x16 (truncf .bf16 w bitsLt_bf16_f32) shapeCasts_S18x16_S18x1x16) broadcasts_S18x1x16_S18x7168x16) : FVec Ideal S18x7168x16 .bf16) (ix3 b x r)
      = (FloatOps.sitofp .bf16 (k (ix3 b x r)) : Ideal .bf16) * w (ix2 b r) := by
  pointwise

/-- Codes times scales, for the first factor. -/
theorem deqp_apply (k : IVec S18x128x16 8) (w : FVec Ideal S18x16 .f32) (b : Fin 18) (r : Fin 16) (l : Fin 128) :
    (mulf (sitofp .bf16 k) (broadcastTo S18x128x16 (shapeCast S18x1x16 (truncf .bf16 w bitsLt_bf16_f32) shapeCasts_S18x16_S18x1x16) broadcasts_S18x1x16_S18x128x16) : FVec Ideal S18x128x16 .bf16) (ix3 b l r)
      = (FloatOps.sitofp .bf16 (k (ix3 b l r)) : Ideal .bf16) * w (ix2 b r) := by
  pointwise

/-- The new error, at an index. -/
theorem er_apply (m : FVec Ideal S18x128x7168 .bf16) (v : FVec Ideal S18x128x16 .f32) (b : Fin 18) (l : Fin 128) (x : Fin 7168) :
    er m v (qn m v) (ix3 b l x) = Cert.Spec.er (mmat m b) (mat v b) l x := by
  unfold er
  rw [sub_apply]
  refine congrArg (m (ix3 b l x) - ·) (Finset.sum_congr rfl fun r _ => ?_)
  rw [deq_apply, deqp_apply, pc_apply, ps_apply, qnc_apply, qns_apply, read_code, read_code, qmat_qn]

/-- The first projection, at an index. -/
theorem p1_apply (b0 b1 : FVec Ideal S18x128x7168 .bf16) (b2 : IVec S18x7168x16 8) (b3 : FVec Ideal S18x16 .f32) (b : Fin 18) (r : Fin 16) (l : Fin 128) :
    P1 (F := Ideal) b0 b1 b2 b3 (ix3 b l r)
      = Cert.Spec.p1 (mmat (M (F := Ideal) b0 b1) b) (fun r x => (((b2 (ix3 b x r)).toInt : ℝ) : EReal)) (fun r => b3 (ix2 b r)) r l := by
  pointwise [P1, k0_pay5]
  exact congrArg (· * _) (Finset.sum_congr rfl fun x _ => mul_comm _ _)

/-- The sum of gradient and error, at an index. -/
theorem m_apply (b0 b1 : FVec Ideal S18x128x7168 .bf16) (b : Fin 18) (l : Fin 128) (x : Fin 7168) :
    M (F := Ideal) b0 b1 (ix3 b l x) = b0 (ix3 b l x) + b1 (ix3 b l x) := by
  pointwise [M, k0_pay4]

/-- The second projection, orthonormalised before and after, for real entries. -/
theorem po_apply (m : FVec Ideal S18x128x7168 .bf16) (v : FVec Ideal S18x128x16 .f32) (b : Fin 18) (hm : ∀ l x, IsR (mmat m b l x))
    (hv : ∀ r l, IsR (mat v b r l)) :
    mat (orth (p2 m v)) b = Cert.Spec.orth (Cert.Spec.p2 (mmat m b) (Cert.Spec.orth (mat v b))) := by
  have e1 : mat (orth v) b = Cert.Spec.orth (mat v b) := funext fun r => funext fun l => orth_apply v b hv r l
  have e2 : mat (p2 m v) b = Cert.Spec.p2 (mmat m b) (Cert.Spec.orth (mat v b)) :=
    funext fun r => funext fun l => (p2_apply m v b r l).trans (by rw [e1])
  funext r l
  refine (orth_apply (p2 m v) b (fun r l => ?_) r l).trans (by rw [e2])
  rw [e2]
  exact Cert.Spec.p2_real hm (Cert.Spec.orth_real _) r l

end Cert.ReferenceIdeal.Model
-- ==== Proof.RArr.lean ====
module

public import proofs.«01_k».proof.Proof.RVal
public import proofs.«01_k».proof.Proof.Final
public import proofs.«01_k».proof.Proof.Gen.ReferenceIdeal.Value
public import Idealize.ShloMosaic.Lib.Pipeline.ValueKit

@[expose] public section

set_option maxRecDepth 16384

noncomputable section

namespace Cert.ReferenceIdeal.Model

open Idealize.ShloMosaic Idealize.ShloMosaic.TcCoe Idealize.SL.Sem
open Idealize.ShloMosaic.Pipeline (Dat)
open Cert.ReferenceIdeal Cert.ReferenceIdeal.Gen Cert.Alg

variable (m : (ℓ : Loc nD τ sig) → Buf (Elt Ideal) ℓ) (c : Dev nD)

/-- The gradient. -/
abbrev aG : Cert.Final.I3 18 128 7168 → EReal := (m ((c : Thread nD τ).loc main_arg0) : FVec Ideal S18x128x7168 .bf16)
/-- The error. -/
abbrev aE : Cert.Final.I3 18 128 7168 → EReal := (m ((c : Thread nD τ).loc main_arg1) : FVec Ideal S18x128x7168 .bf16)
/-- The codes of the old factor. -/
abbrev aC : Cert.Final.I3 18 7168 16 → BitVec 8 := (m ((c : Thread nD τ).loc main_arg2) : IVec S18x7168x16 8)
/-- The scales of the old factor. -/
abbrev aS : Cert.Final.I2 18 16 → EReal := (m ((c : Thread nD τ).loc main_arg3) : FVec Ideal S18x16 .f32)

/-- Where each block lies: at the origin. -/
theorem idx_all : ∀ t : Fin cfg0.N, win0_0.index t = ![0, 0, 0] ∧ win0_1.index t = ![0, 0, 0] ∧ win0_2.index t = ![0, 0, 0] ∧ win0_3.index t = ![0, 0]
    ∧ win0_4.index t = ![0, 0, 0] ∧ win0_5.index t = ![0, 0, 0] ∧ win0_6.index t = ![0, 0, 0] ∧ win0_7.index t = ![0, 0] ∧ win0_8.index t = ![0, 0, 0] ∧ win0_9.index t = ![0, 0] :=
  (by decide +kernel : ∀ t : Fin grid0.N, win0_0.index t = ![0, 0, 0] ∧ win0_1.index t = ![0, 0, 0] ∧ win0_2.index t = ![0, 0, 0] ∧ win0_3.index t = ![0, 0]
    ∧ win0_4.index t = ![0, 0, 0] ∧ win0_5.index t = ![0, 0, 0] ∧ win0_6.index t = ![0, 0, 0] ∧ win0_7.index t = ![0, 0] ∧ win0_8.index t = ![0, 0, 0] ∧ win0_9.index t = ![0, 0])

/-- The reference's block of the gradient is the gradient. -/
theorem blk0 (t : Fin cfg0.N) (b : Fin 18) (l : Fin 128) (x : Fin 7168) :
    (iblk m c 0 t : FVec Ideal S18x128x7168 .bf16) (ix3 b l x) = aG m c (ix3 b l x) := by
  blk_point [iblk, V, idx_all t]

/-- The reference's block of the error is the error. -/
theorem blk1 (t : Fin cfg0.N) (b : Fin 18) (l : Fin 128) (x : Fin 7168) :
    (iblk m c 1 t : FVec Ideal S18x128x7168 .bf16) (ix3 b l x) = aE m c (ix3 b l x) := by
  blk_point [iblk, V, idx_all t]

/-- The reference's block of the codes is the array of codes. -/
theorem blk2 (t : Fin cfg0.N) (b : Fin 18) (x : Fin 7168) (r : Fin 16) :
    (iblk m c 2 t : IVec S18x7168x16 8) (ix3 b x r) = aC m c (ix3 b x r) := by
  blk_point [iblk, V, idx_all t]

/-- The reference's block of the scales is the array of scales. -/
theorem blk3 (t : Fin cfg0.N) (b : Fin 18) (r : Fin 16) :
    (iblk m c 3 t : FVec Ideal S18x16 .f32) (ix2 b r) = aS m c (ix2 b r) := by
  blk_point [iblk, V, idx_all t]

/-- The sum at the grid point. -/
abbrev tM (t : Fin cfg0.N) : FVec Ideal S18x128x7168 .bf16 := M (F := Ideal) (iblk m c 0 t) (iblk m c 1 t)
/-- The first projection at the grid point. -/
abbrev tP (t : Fin cfg0.N) : FVec Ideal S18x128x16 .f32 := P1 (F := Ideal) (iblk m c 0 t) (iblk m c 1 t) (iblk m c 2 t) (iblk m c 3 t)
/-- The orthonormal columns at the grid point. -/
abbrev tO (t : Fin cfg0.N) : FVec Ideal S18x128x16 .f32 := PO (F := Ideal) (iblk m c 0 t) (iblk m c 1 t) (iblk m c 2 t) (iblk m c 3 t)
/-- The second factor at the grid point. -/
abbrev tQ (t : Fin cfg0.N) : FVec Ideal S18x7168x16 .f32 := Q (F := Ideal) (iblk m c 0 t) (iblk m c 1 t) (iblk m c 2 t) (iblk m c 3 t)

/-- The sum, member by member. -/
theorem t_M (t : Fin cfg0.N) (b : Fin 18) : mmat (tM m c t) b = Cert.Final.mm (aG m c) (aE m c) b := by
  funext l x
  exact (m_apply _ _ b l x).trans (congrArg₂ (· + ·) (blk0 m c t b l x) (blk1 m c t b l x))

/-- The first projection, member by member. -/
theorem t_P (t : Fin cfg0.N) (b : Fin 18) : mat (tP m c t) b = Cert.Final.p (aG m c) (aE m c) (aC m c) (aS m c) b := by
  funext r l
  refine (p1_apply (iblk m c 0 t) (iblk m c 1 t) (iblk m c 2 t) (iblk m c 3 t) b r l).trans ?_
  unfold Cert.Final.p
  rw [t_M]
  refine congrArg₂ (fun u v => Cert.Spec.p1 (Cert.Final.mm (aG m c) (aE m c) b) u v r l) ?_ ?_
  · funext r x
    exact congrArg (fun z : BitVec 8 => ((z.toInt : ℝ) : EReal)) (blk2 m c t b x r)
  · funext r
    exact blk3 m c t b r

variable (hG : Cert.Final.AllR (aG m c)) (hE : Cert.Final.AllR (aE m c)) (hS : Cert.Final.AllR (aS m c))

include hG hE hS in
/-- The orthonormal columns, member by member. -/
theorem t_O (t : Fin cfg0.N) (b : Fin 18) : mat (tO m c t) b = Cert.Final.o (aG m c) (aE m c) (aC m c) (aS m c) b := by
  refine (po_apply (tM m c t) (tP m c t) b ?_ ?_).trans ?_
  · rw [t_M]; exact Cert.Final.mm_real hG hE b
  · rw [t_P]; exact Cert.Final.p_real hG hE hS b
  · rw [t_M, t_P]; rfl

include hG hE hS in
/-- The second factor, member by member. -/
theorem t_Q (t : Fin cfg0.N) (b : Fin 18) : qmat (tQ m c t) b = Cert.Final.q (aG m c) (aE m c) (aC m c) (aS m c) b := by
  refine (qmat_qn (tM m c t) (tO m c t) b).trans ?_
  rw [t_M, t_O m c hG hE hS]; rfl

/-- Output 4's block is its array. -/
theorem emb4 (t : Fin cfg0.N) (y : S18x128x7168.Idx) : (win0_4.blk t).view.emb y = (ix3 (y 0) (y 1) (y 2) : S18x128x7168.Idx) := by
  blk_ext! [idx_all t]

include hG hE hS in
/-- The new error, from the reference. -/
theorem arr4 : (dats m 0 c).arrAt 4 cfg0.N = (Cert.Final.v0 (aG m c) (aE m c) (aC m c) (aS m c) : FVec Ideal S18x128x7168 .bf16) := by
  refine (dats m 0 c).arrAt_eq_of_covers 4 _ (by decide +kernel) fun t hf y => ?_
  blk_simp
  rw [after0_4, out4]
  refine Eq.trans ?_ (congrArg (Cert.Final.v0 (aG m c) (aE m c) (aC m c) (aS m c)) (emb4 t y)).symm
  obtain ⟨b, l, x, rfl⟩ : ∃ (b : Fin 18) (l : Fin 128) (x : Fin 7168), y = (ix3 b l x : S18x128x7168.Idx) := ⟨y 0, y 1, y 2, by pointwise⟩
  refine (er_apply (tM m c t) (tO m c t) b l x).trans ?_
  rw [t_M, t_O m c hG hE hS]
  rfl

/-- A transposed array at an index. -/
theorem tr5 (z : FVec Ideal S18x128x16 .f32) (y : S18x16x128.Idx) : transpose S18x16x128 [0, 2, 1] z transposes_S18x128x16_p0_2_1_S18x16x128 y = z (ix3 (y 0) (y 2) (y 1)) := by
  pointwise

/-- Output 5's block is its array. -/
theorem emb5 (t : Fin cfg0.N) (y : S18x16x128.Idx) : (win0_5.blk t).view.emb y = (ix3 (y 0) (y 1) (y 2) : S18x16x128.Idx) := by
  blk_ext! [idx_all t]

/-- The first projection, from the reference. -/
theorem arr5 : (dats m 0 c).arrAt 5 cfg0.N = (Cert.Final.v1 (aG m c) (aE m c) (aC m c) (aS m c) : FVec Ideal S18x16x128 .f32) := by
  refine (dats m 0 c).arrAt_eq_of_covers 5 _ (by decide +kernel) fun t hf y => ?_
  blk_simp
  rw [after0_5, out5]
  refine Eq.trans ?_ (congrArg (Cert.Final.v1 (aG m c) (aE m c) (aC m c) (aS m c)) (emb5 t y)).symm
  exact (tr5 (tP m c t) y).trans (congrFun (congrFun (t_P m c t (y 0)) (y 1)) (y 2))

/-- A transposed array at an index. -/
theorem tr6 (z : IVec S18x128x16 8) (y : S18x16x128.Idx) : transpose S18x16x128 [0, 2, 1] z transposes_S18x128x16_p0_2_1_S18x16x128 y = z (ix3 (y 0) (y 2) (y 1)) := by
  pointwise

/-- Output 6's block is its array. -/
theorem emb6 (t : Fin cfg0.N) (y : S18x16x128.Idx) : (win0_6.blk t).view.emb y = (ix3 (y 0) (y 1) (y 2) : S18x16x128.Idx) := by
  blk_ext! [idx_all t]

include hG hE hS in
/-- The codes of the first factor, from the reference. -/
theorem arr6 : (dats m 0 c).arrAt 6 cfg0.N = (Cert.Final.v2 (aG m c) (aE m c) (aC m c) (aS m c) : IVec S18x16x128 8) := by
  refine (dats m 0 c).arrAt_eq_of_covers 6 _ (by decide +kernel) fun t hf y => ?_
  blk_simp
  rw [after0_6, out6]
  refine Eq.trans ?_ (congrArg (Cert.Final.v2 (aG m c) (aE m c) (aC m c) (aS m c)) (emb6 t y)).symm
  refine (tr6 (pc (tO m c t)) y).trans ((pc_apply (tO m c t) (y 0) (y 1) (y 2)).trans (congrArg (Ideal.fptosi 8) ?_))
  exact congrArg (fun z => Cert.Spec.cd z (y 1) (y 2)) (t_O m c hG hE hS t (y 0))

/-- A transposed array at an index. -/
theorem tr7 (z : FVec Ideal S18x16 .f32) (y : S16x18.Idx) : transpose S16x18 [1, 0] z transposes_S18x16_p1_0_S16x18 y = z (ix2 (y 1) (y 0)) := by
  pointwise

/-- Output 7's block is its array. -/
theorem emb7 (t : Fin cfg0.N) (y : S16x18.Idx) : (win0_7.blk t).view.emb y = (ix2 (y 0) (y 1) : S16x18.Idx) := by
  blk_ext! [idx_all t]

include hG hE hS in
/-- The scales of the first factor, from the reference. -/
theorem arr7 : (dats m 0 c).arrAt 7 cfg0.N = (Cert.Final.v3 (aG m c) (aE m c) (aC m c) (aS m c) : FVec Ideal S16x18 .f32) := by
  refine (dats m 0 c).arrAt_eq_of_covers 7 _ (by decide +kernel) fun t hf y => ?_
  blk_simp
  rw [after0_7, out7]
  refine Eq.trans ?_ (congrArg (Cert.Final.v3 (aG m c) (aE m c) (aC m c) (aS m c)) (emb7 t y)).symm
  refine (tr7 (ps (tO m c t)) y).trans ((ps_apply (tO m c t) (y 1) (y 0)).trans ?_)
  exact congrArg (fun z => Cert.Spec.sc z (y 0)) (t_O m c hG hE hS t (y 1))

/-- A transposed array at an index. -/
theorem tr8 (z : IVec S18x7168x16 8) (y : S18x16x7168.Idx) : transpose S18x16x7168 [0, 2, 1] z transposes_S18x7168x16_p0_2_1_S18x16x7168 y = z (ix3 (y 0) (y 2) (y 1)) := by
  pointwise

/-- Output 8's block is its array. -/
theorem emb8 (t : Fin cfg0.N) (y : S18x16x7168.Idx) : (win0_8.blk t).view.emb y = (ix3 (y 0) (y 1) (y 2) : S18x16x7168.Idx) := by
  blk_ext! [idx_all t]

include hG hE hS in
/-- The codes of the second factor, from the reference. -/
theorem arr8 : (dats m 0 c).arrAt 8 cfg0.N = (Cert.Final.v4 (aG m c) (aE m c) (aC m c) (aS m c) : IVec S18x16x7168 8) := by
  refine (dats m 0 c).arrAt_eq_of_covers 8 _ (by decide +kernel) fun t hf y => ?_
  blk_simp
  rw [after0_8, out8]
  refine Eq.trans ?_ (congrArg (Cert.Final.v4 (aG m c) (aE m c) (aC m c) (aS m c)) (emb8 t y)).symm
  refine (tr8 (qnc (tQ m c t)) y).trans ((qnc_apply (tQ m c t) (y 0) (y 1) (y 2)).trans (congrArg (Ideal.fptosi 8) ?_))
  exact congrArg (fun z => Cert.Spec.cd z (y 1) (y 2)) (t_Q m c hG hE hS t (y 0))

/-- Output 9's block is its array. -/
theorem emb9 (t : Fin cfg0.N) (y : S16x18.Idx) : (win0_9.blk t).view.emb y = (ix2 (y 0) (y 1) : S16x18.Idx) := by
  blk_ext! [idx_all t]

include hG hE hS in
/-- The scales of the second factor, from the reference. -/
theorem arr9 : (dats m 0 c).arrAt 9 cfg0.N = (Cert.Final.v5 (aG m c) (aE m c) (aC m c) (aS m c) : FVec Ideal S16x18 .f32) := by
  refine (dats m 0 c).arrAt_eq_of_covers 9 _ (by decide +kernel) fun t hf y => ?_
  blk_simp
  rw [after0_9, out9]
  refine Eq.trans ?_ (congrArg (Cert.Final.v5 (aG m c) (aE m c) (aC m c) (aS m c)) (emb9 t y)).symm
  refine (tr7 (qns (tQ m c t)) y).trans ((qns_apply (tQ m c t) (y 1) (y 0)).trans ?_)
  exact congrArg (fun z => Cert.Spec.sc z (y 0)) (t_Q m c hG hE hS t (y 1))

end Cert.ReferenceIdeal.Model
-- ==== Proof.Pre.lean ====
module

public import proofs.«01_k».proof.Pre_finite
public import proofs.«01_k».proof.Proof.Final
public import Idealize.ShloMosaic.Lib.ReduceAll
public import Idealize.ShloMosaic.Lib.Pointwise

@[expose] public section

set_option maxRecDepth 16384

noncomputable section

namespace Cert.Pre

open Idealize.ShloMosaic Cert.Alg Cert.Pre_finite

/-- The side conditions of the precondition's operations. -/
theorem facts : Cert.Pre_finite.Facts :=
  ⟨by decide, by decide, by decide, by decide, by decide, by decide⟩

/-- A number whose absolute value is below infinity is real. -/
theorem real_of_lt (x : EReal) (h : FloatOps.cmpf (F := Ideal) (φ := .f32) .olt (FloatOps.hostAbsf (F := Ideal) (φ := .f32) x) (Ideal.ofBits .f32 0x7F800000#32) = 1#1) : IsR x := by
  pointwise at h
  have ht : Ideal.ofBits .f32 0x7F800000#32 = (⊤ : EReal) := by
    simp [Ideal.ofBits, Ideal.ieee, -EReal.coe_mul, -EReal.coe_neg]
  rw [ht] at h
  have h1 : FloatOps.absf (F := Ideal) (φ := .f32) x < (⊤ : EReal) := by
    by_contra hn
    rw [decide_eq_false hn] at h
    exact absurd h (by decide)
  induction x using EReal.rec with
  | coe r => exact ⟨r, rfl⟩
  | bot => exact absurd h1 (by simp [FloatOps.absf])
  | top => exact absurd h1 (by simp [FloatOps.absf])

/-- The precondition gives that every number of the gradient, of the error and of the scales is real. -/
theorem all_real (h : Cert.Pre_finite.Facts) (g e : FVec Ideal S18x128x7168 .bf16) (c : IVec S18x7168x16 8) (s : FVec Ideal S18x16 .f32)
    (hp : Cert.Pre_finite.fn (F := Ideal) g e c s = fun _ => 1#1) :
    Cert.Final.AllR (ι := S18x128x7168.Idx) g ∧ Cert.Final.AllR (ι := S18x128x7168.Idx) e ∧ Cert.Final.AllR (ι := S18x16.Idx) s := by
  have h0 := congrFun hp (fun a => a.elim0)
  dsimp only [Cert.Pre_finite.fn] at h0
  obtain ⟨h1, hs⟩ := IntOp.andi_eq_one.1 h0
  obtain ⟨hg, he⟩ := IntOp.andi_eq_one.1 h1
  have hj : Subsingleton S_.Idx := ⟨fun a b => funext fun k => k.elim0⟩
  exact ⟨fun i => real_of_lt _ (Host.reduce_andi_all _ _ _ _ _ hg i), fun i => real_of_lt _ (Host.reduce_andi_all _ _ _ _ _ he i),
    fun i => real_of_lt _ (Host.reduce_andi_all _ _ _ _ _ hs i)⟩

end Cert.Pre
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.KArr
public import proofs.«01_k».proof.Proof.RArr
public import proofs.«01_k».proof.Proof.Pre
public import Idealize.ShloMosaic.Adequacy
public import Idealize.ShloMosaic.Init

@[expose] public section

noncomputable section

namespace Cert.Proof

open Idealize.ShloMosaic Idealize.SL.Sem

/-- A function of four arguments, at equal arguments. -/
theorem same {α₁ α₂ α₃ α₄ β : Type} (f : α₁ → α₂ → α₃ → α₄ → β) {a a' : α₁} {b b' : α₂} {c c' : α₃} {d d' : α₄}
    (ha : a = a') (hb : b = b') (hc : c = c') (hd : d = d') : f a b c d = f a' b' c' d' := by
  subst ha hb hc hd; rfl

/-- Of finite arguments the idealized kernel and the idealized reference end with the same six results. -/
theorem algebraic : @Cert.algebraic_KernelIdeal_ReferenceIdeal_pre_finite Cert.KernelIdeal.Gen.facts Cert.ReferenceIdeal.Gen.facts Cert.Pre.facts := by
  intro m g m' g' hp hm
  have hr := fun c => Cert.Pre.all_real Cert.Pre.facts _ _ _ _ (hp c)
  have hG : ∀ c, Cert.Final.AllR (Cert.KernelIdeal.Model.aG m c) := fun c => (hr c).1
  have hE : ∀ c, Cert.Final.AllR (Cert.KernelIdeal.Model.aE m c) := fun c => (hr c).2.1
  have hS : ∀ c, Cert.Final.AllR (Cert.KernelIdeal.Model.aS m c) := fun c => (hr c).2.2
  have eG : ∀ c, Cert.ReferenceIdeal.Model.aG m' c = Cert.KernelIdeal.Model.aG m c := fun c => (hm c).1
  have eE : ∀ c, Cert.ReferenceIdeal.Model.aE m' c = Cert.KernelIdeal.Model.aE m c := fun c => (hm c).2.1
  have eC : ∀ c, Cert.ReferenceIdeal.Model.aC m' c = Cert.KernelIdeal.Model.aC m c := fun c => (hm c).2.2.1
  have eS : ∀ c, Cert.ReferenceIdeal.Model.aS m' c = Cert.KernelIdeal.Model.aS m c := fun c => (hm c).2.2.2
  refine ⟨fun c => Cert.Final.v0 (Cert.KernelIdeal.Model.aG m c) (Cert.KernelIdeal.Model.aE m c) (Cert.KernelIdeal.Model.aC m c) (Cert.KernelIdeal.Model.aS m c),
    fun c => Cert.Final.v1 (Cert.KernelIdeal.Model.aG m c) (Cert.KernelIdeal.Model.aE m c) (Cert.KernelIdeal.Model.aC m c) (Cert.KernelIdeal.Model.aS m c),
    fun c => Cert.Final.v2 (Cert.KernelIdeal.Model.aG m c) (Cert.KernelIdeal.Model.aE m c) (Cert.KernelIdeal.Model.aC m c) (Cert.KernelIdeal.Model.aS m c),
    fun c => Cert.Final.v3 (Cert.KernelIdeal.Model.aG m c) (Cert.KernelIdeal.Model.aE m c) (Cert.KernelIdeal.Model.aC m c) (Cert.KernelIdeal.Model.aS m c),
    fun c => Cert.Final.v4 (Cert.KernelIdeal.Model.aG m c) (Cert.KernelIdeal.Model.aE m c) (Cert.KernelIdeal.Model.aC m c) (Cert.KernelIdeal.Model.aS m c),
    fun c => Cert.Final.v5 (Cert.KernelIdeal.Model.aG m c) (Cert.KernelIdeal.Model.aE m c) (Cert.KernelIdeal.Model.aC m c) (Cert.KernelIdeal.Model.aS m c), ?_, ?_⟩
  · refine (θ_run Cert.KernelIdeal.defs _ _).mono (fun r h c => ?_) (Cert.KernelIdeal.Value.run_blocks (F := Ideal) m g)
    obtain ⟨h4, h5, h6, h7, h8, h9, ha⟩ := h c
    exact ⟨h4.trans (Cert.KernelIdeal.Model.arr4 m c (hG c) (hE c) (hS c)), h5.trans (Cert.KernelIdeal.Model.arr5 m c),
      h6.trans (Cert.KernelIdeal.Model.arr6 m c (hG c) (hE c) (hS c)), h7.trans (Cert.KernelIdeal.Model.arr7 m c (hG c) (hE c) (hS c)),
      h8.trans (Cert.KernelIdeal.Model.arr8 m c (hG c) (hE c) (hS c)), h9.trans (Cert.KernelIdeal.Model.arr9 m c (hG c) (hE c) (hS c)), ha⟩
  · refine (θ_run Cert.ReferenceIdeal.defs _ _).mono (fun r h c => ?_) (Cert.ReferenceIdeal.Value.run_blocks (F := Ideal) m' g')
    obtain ⟨h4, h5, h6, h7, h8, h9, ha⟩ := h c
    have gG := (eG c).symm ▸ hG c
    have gE := (eE c).symm ▸ hE c
    have gS := (eS c).symm ▸ hS c
    exact ⟨h4.trans ((Cert.ReferenceIdeal.Model.arr4 m' c gG gE gS).trans (same Cert.Final.v0 (eG c) (eE c) (eC c) (eS c))), h5.trans ((Cert.ReferenceIdeal.Model.arr5 m' c).trans (same Cert.Final.v1 (eG c) (eE c) (eC c) (eS c))),
      h6.trans ((Cert.ReferenceIdeal.Model.arr6 m' c gG gE gS).trans (same Cert.Final.v2 (eG c) (eE c) (eC c) (eS c))), h7.trans ((Cert.ReferenceIdeal.Model.arr7 m' c gG gE gS).trans (same Cert.Final.v3 (eG c) (eE c) (eC c) (eS c))),
      h8.trans ((Cert.ReferenceIdeal.Model.arr8 m' c gG gE gS).trans (same Cert.Final.v4 (eG c) (eE c) (eC c) (eS c))), h9.trans ((Cert.ReferenceIdeal.Model.arr9 m' c gG gE gS).trans (same Cert.Final.v5 (eG c) (eE c) (eC c) (eS c))), ha⟩

/-- Everything the certificate claims. -/
theorem claim : Cert.Claim :=
  ⟨Cert.Kernel.Gen.facts, Cert.KernelIdeal.Gen.facts, Cert.ReferenceIdeal.Gen.facts, Cert.Pre.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof
